-- ==== Defs.lean ====
def Pre_Kernel [hPre_drawn : Cert.Pre_drawn.Facts] (m : (ℓ : Loc Cert.Kernel.nD Cert.Kernel.τ Cert.Kernel.sig) → Buf (Elt Bits) ℓ) : Prop :=
  ∀ c : Dev Cert.Kernel.nD,
    (Cert.Pre_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_drawn : Cert.Pre_drawn.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel) (hPre_drawn := hPre_drawn)
    ∧ quiescent_KernelIdeal (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal (hKernelIdeal := hKernelIdeal) (hReferenceIdeal := hReferenceIdeal) (hPre_drawn := hPre_drawn)
-- ==== Pre_drawn.lean ====
abbrev S4096x26 : Shape := ⟨2, ![4096, 26]⟩
abbrev S1040000x1 : Shape := ⟨2, ![1040000, 1]⟩
abbrev S1 : Shape := ⟨1, ![1]⟩
abbrev S26 : Shape := ⟨1, ![26]⟩
abbrev S_ : Shape := ⟨0, ![]⟩

class Facts : Prop where
  bcast_S_S4096x26 : S_.BroadcastsInDim S4096x26 (![] : Fin 0 → Fin S4096x26.rank)
  reducesTo_S4096x26_S_d0_1 : S4096x26.ReducesTo [0, 1] S_
  h_S_ : 0 < S_.numel
  bcast_S_S26 : S_.BroadcastsInDim S26 (![] : Fin 0 → Fin S26.rank)
  reducesTo_S26_S_d0 : S26.ReducesTo [0] S_

variable [Facts]

def fn_part1 {F : FTy → Type} [FloatOps F] (main_v12 : IVec S_ 1) (main_v16 : IVec S26 1) : IVec S_ 1 :=
  let main_c_6 : IVec S_ 1 := constantI S_ 1 1#1
  let main_v17 : IVec S_ 1 := (fun x v => Host.reduce IntOp.andi x v reducesTo_S26_S_d0 h_S_) main_v16 main_c_6
  let main_v18 : IVec S_ 1 := andi main_v12 main_v17
  main_v18

def fn {F : FTy → Type} [FloatOps F] (main_arg0 : IVec S4096x26 32) (main_arg1 : IVec S4096x26 32) (main_arg2 : FVec F S1040000x1 .f32) (main_arg3 : FVec F S1 .f32) (main_arg4 : IVec S26 32) : IVec S_ 1 :=
  let main_c : IVec S_ 32 := constantI S_ 32 0#32
  let main_v0 : IVec S4096x26 32 := broadcastInDim S4096x26 ![] bcast_S_S4096x26 main_c
  let main_v1 : IVec S4096x26 1 := cmpi .sge main_arg0 main_v0
  let main_c_0 : IVec S_ 32 := constantI S_ 32 26#32
  let main_v2 : IVec S4096x26 32 := broadcastInDim S4096x26 ![] bcast_S_S4096x26 main_c_0
  let main_v3 : IVec S4096x26 1 := cmpi .slt main_arg0 main_v2
  let main_v4 : IVec S4096x26 1 := andi main_v1 main_v3
  let main_c_1 : IVec S_ 1 := constantI S_ 1 1#1
  let main_v5 : IVec S_ 1 := (fun x v => Host.reduce IntOp.andi x v reducesTo_S4096x26_S_d0_1 h_S_) main_v4 main_c_1
  let main_c_2 : IVec S_ 32 := constantI S_ 32 0#32
  let main_v6 : IVec S4096x26 32 := broadcastInDim S4096x26 ![] bcast_S_S4096x26 main_c_2
  let main_v7 : IVec S4096x26 1 := cmpi .sge main_arg1 main_v6
  let main_c_3 : IVec S_ 32 := constantI S_ 32 40000#32
  let main_v8 : IVec S4096x26 32 := broadcastInDim S4096x26 ![] bcast_S_S4096x26 main_c_3
  let main_v9 : IVec S4096x26 1 := cmpi .slt main_arg1 main_v8
  let main_v10 : IVec S4096x26 1 := andi main_v7 main_v9
  let main_c_4 : IVec S_ 1 := constantI S_ 1 1#1
  let main_v11 : IVec S_ 1 := (fun x v => Host.reduce IntOp.andi x v reducesTo_S4096x26_S_d0_1 h_S_) main_v10 main_c_4
  let main_v12 : IVec S_ 1 := andi main_v5 main_v11
  let main_v13 : IVec S26 32 := iotaInDim S26 32 0
  let main_c_5 : IVec S_ 32 := constantI S_ 32 40000#32
  let main_v14 : IVec S26 32 := broadcastInDim S26 ![] bcast_S_S26 main_c_5
  let main_v15 : IVec S26 32 := muli main_v13 main_v14
  let main_v16 : IVec S26 1 := cmpi .eq main_arg4 main_v15
  fn_part1 (F := F) main_v12 main_v16
-- ==== Kernel.lean ====
abbrev S4096x26 : Shape := ⟨2, ![4096, 26]⟩
abbrev S1040000x1 : Shape := ⟨2, ![1040000, 1]⟩
abbrev S1 : Shape := ⟨1, ![1]⟩
abbrev S26 : Shape := ⟨1, ![26]⟩
abbrev S_ : Shape := ⟨0, ![]⟩
abbrev S106496 : Shape := ⟨1, ![106496]⟩
abbrev S1x1040000 : Shape := ⟨2, ![1, 1040000]⟩
abbrev S4096 : Shape := ⟨1, ![4096]⟩
abbrev S3328 : Shape := ⟨1, ![3328]⟩
abbrev S26x1x128 : Shape := ⟨3, ![26, 1, 128]⟩
abbrev S128 : Shape := ⟨1, ![128]⟩
abbrev S16 : Shape := ⟨1, ![16]⟩
abbrev S1x1x16 : Shape := ⟨3, ![1, 1, 16]⟩
abbrev S1x1x128 : Shape := ⟨3, ![1, 1, 128]⟩
abbrev S1040000 : Shape := ⟨1, ![1040000]⟩
abbrev S4096x1 : Shape := ⟨2, ![4096, 1]⟩
abbrev S1x1 : Shape := ⟨2, ![1, 1]⟩

abbrev nBuf : Table → Nat
  | .hbm => 16
  | .local .scVector .vmem => 4
  | _ => 0

abbrev bufTy : (tb : Table) → Fin (nBuf tb) → BufTy
  | .hbm, ⟨0, _⟩ => ⟨S4096x26, .i32⟩
  | .hbm, ⟨1, _⟩ => ⟨S4096x26, .i32⟩
  | .hbm, ⟨2, _⟩ => ⟨S1040000x1, .f32⟩
  | .hbm, ⟨3, _⟩ => ⟨S1, .f32⟩
  | .hbm, ⟨4, _⟩ => ⟨S26, .i32⟩
  | .hbm, ⟨5, _⟩ => ⟨S_, .i32⟩
  | .hbm, ⟨6, _⟩ => ⟨S4096x26, .i32⟩
  | .hbm, ⟨7, _⟩ => ⟨S4096x26, .i32⟩
  | .hbm, ⟨8, _⟩ => ⟨S4096x26, .i32⟩
  | .hbm, ⟨9, _⟩ => ⟨S106496, .i32⟩
  | .hbm, ⟨10, _⟩ => ⟨S1x1040000, .f32⟩
  | .hbm, ⟨11, _⟩ => ⟨S4096, .f32⟩
  | .hbm, ⟨12, _⟩ => ⟨S4096x1, .f32⟩
  | .hbm, ⟨13, _⟩ => ⟨S1x1, .f32⟩
  | .hbm, ⟨14, _⟩ => ⟨S4096x1, .f32⟩
  | .hbm, ⟨15, _⟩ => ⟨S4096x1, .f32⟩
  | .local .scVector .vmem, ⟨0, _⟩ => ⟨S3328, .i32⟩
  | .local .scVector .vmem, ⟨1, _⟩ => ⟨S26x1x128, .i32⟩
  | .local .scVector .vmem, ⟨2, _⟩ => ⟨S26x1x128, .f32⟩
  | .local .scVector .vmem, ⟨3, _⟩ => ⟨S128, .f32⟩
  | _, _ => ⟨S4096x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v3_scv : Ref sig .scVector := ⟨.hbm, 9, rfl⟩
abbrev main_v4_scv : Ref sig .scVector := ⟨.hbm, 10, rfl⟩
abbrev main_v5_scv : Ref sig .scVector := ⟨.hbm, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c26_i32 : BitVec 32 := 26#32
  let v3 : BitVec 32 := Scalar.muli v2 c26_i32
  ![v3.toNat]
@[reducible] def k0_t1_loop : Scf.Loop 32 :=
  let c0_i32_0 : BitVec 32 := 0#32
  let c8_i32 : BitVec 32 := 8#32
  let v4 : BitVec 32 := Scalar.addi c0_i32_0 c8_i32
  let c1_i32 : BitVec 32 := 1#32
  ⟨c0_i32_0, v4, c1_i32⟩

def k0_chk1 (v378 : IVec S16 32) : Prop :=
  (∀ a x, ((![v378] : Fin 1 → IVec S16 32) a x).toNat < S3328.size a)
theorem k0_idx1_inb : ∀ (v378 : IVec S16 32) (k0_hw1 : k0_chk1 v378), ∀ a x, ((![v378] : Fin 1 → IVec S16 32) a x).toNat < S3328.size a := fun v378 k0_hw1 => k0_hw1
def k0_off2 (k0_t1 : Fin k0_t1_loop.trips) : Fin 3 → Nat :=
  let c0_i32_458 : BitVec 32 := 0#32
  let v387 : Index := Scalar.indexCast c0_i32_458
  let c0_i32_459 : BitVec 32 := 0#32
  let v388 : Index := Scalar.indexCast c0_i32_459
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v389 : Index := Scalar.indexCast v376
  ![0, 0, v389.toNat]

def k0_chk2 (v392 : IVec S16 32) : Prop :=
  (∀ a x, ((![v392] : Fin 1 → IVec S16 32) a x).toNat < S3328.size a)
theorem k0_idx2_inb : ∀ (v392 : IVec S16 32) (k0_hw2 : k0_chk2 v392), ∀ a x, ((![v392] : Fin 1 → IVec S16 32) a x).toNat < S3328.size a := fun v392 k0_hw2 => k0_hw2
def k0_off3 (k0_t1 : Fin k0_t1_loop.trips) : Fin 3 → Nat :=
  let c1_i32_464 : BitVec 32 := 1#32
  let v401 : Index := Scalar.indexCast c1_i32_464
  let c0_i32_465 : BitVec 32 := 0#32
  let v402 : Index := Scalar.indexCast c0_i32_465
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v403 : Index := Scalar.indexCast v376
  ![1, 0, v403.toNat]

def k0_chk3 (v406 : IVec S16 32) : Prop :=
  (∀ a x, ((![v406] : Fin 1 → IVec S16 32) a x).toNat < S3328.size a)
theorem k0_idx3_inb : ∀ (v406 : IVec S16 32) (k0_hw3 : k0_chk3 v406), ∀ a x, ((![v406] : Fin 1 → IVec S16 32) a x).toNat < S3328.size a := fun v406 k0_hw3 => k0_hw3
def k0_off4 (k0_t1 : Fin k0_t1_loop.trips) : Fin 3 → Nat :=
  let c2_i32_470 : BitVec 32 := 2#32
  let v415 : Index := Scalar.indexCast c2_i32_470
  let c0_i32_471 : BitVec 32 := 0#32
  let v416 : Index := Scalar.indexCast c0_i32_471
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v417 : Index := Scalar.indexCast v376
  ![2, 0, v417.toNat]

def k0_chk4 (v420 : IVec S16 32) : Prop :=
  (∀ a x, ((![v420] : Fin 1 → IVec S16 32) a x).toNat < S3328.size a)
theorem k0_idx4_inb : ∀ (v420 : IVec S16 32) (k0_hw4 : k0_chk4 v420), ∀ a x, ((![v420] : Fin 1 → IVec S16 32) a x).toNat < S3328.size a := fun v420 k0_hw4 => k0_hw4
def k0_off5 (k0_t1 : Fin k0_t1_loop.trips) : Fin 3 → Nat :=
  let c3_i32_476 : BitVec 32 := 3#32
  let v429 : Index := Scalar.indexCast c3_i32_476
  let c0_i32_477 : BitVec 32 := 0#32
  let v430 : Index := Scalar.indexCast c0_i32_477
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v431 : Index := Scalar.indexCast v376
  ![3, 0, v431.toNat]

def k0_chk5 (v434 : IVec S16 32) : Prop :=
  (∀ a x, ((![v434] : Fin 1 → IVec S16 32) a x).toNat < S3328.size a)
theorem k0_idx5_inb : ∀ (v434 : IVec S16 32) (k0_hw5 : k0_chk5 v434), ∀ a x, ((![v434] : Fin 1 → IVec S16 32) a x).toNat < S3328.size a := fun v434 k0_hw5 => k0_hw5
def k0_off6 (k0_t1 : Fin k0_t1_loop.trips) : Fin 3 → Nat :=
  let c4_i32_482 : BitVec 32 := 4#32
  let v443 : Index := Scalar.indexCast c4_i32_482
  let c0_i32_483 : BitVec 32 := 0#32
  let v444 : Index := Scalar.indexCast c0_i32_483
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v445 : Index := Scalar.indexCast v376
  ![4, 0, v445.toNat]

def k0_chk6 (v448 : IVec S16 32) : Prop :=
  (∀ a x, ((![v448] : Fin 1 → IVec S16 32) a x).toNat < S3328.size a)
theorem k0_idx6_inb : ∀ (v448 : IVec S16 32) (k0_hw6 : k0_chk6 v448), ∀ a x, ((![v448] : Fin 1 → IVec S16 32) a x).toNat < S3328.size a := fun v448 k0_hw6 => k0_hw6
def k0_off7 (k0_t1 : Fin k0_t1_loop.trips) : Fin 3 → Nat :=
  let c5_i32_488 : BitVec 32 := 5#32
  let v457 : Index := Scalar.indexCast c5_i32_488
  let c0_i32_489 : BitVec 32 := 0#32
  let v458 : Index := Scalar.indexCast c0_i32_489
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v459 : Index := Scalar.indexCast v376
  ![5, 0, v459.toNat]

def k0_chk7 (v462 : IVec S16 32) : Prop :=
  (∀ a x, ((![v462] : Fin 1 → IVec S16 32) a x).toNat < S3328.size a)
theorem k0_idx7_inb : ∀ (v462 : IVec S16 32) (k0_hw7 : k0_chk7 v462), ∀ a x, ((![v462] : Fin 1 → IVec S16 32) a x).toNat < S3328.size a := fun v462 k0_hw7 => k0_hw7
def k0_off8 (k0_t1 : Fin k0_t1_loop.trips) : Fin 3 → Nat :=
  let c6_i32_494 : BitVec 32 := 6#32
  let v471 : Index := Scalar.indexCast c6_i32_494
  let c0_i32_495 : BitVec 32 := 0#32
  let v472 : Index := Scalar.indexCast c0_i32_495
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v473 : Index := Scalar.indexCast v376
  ![6, 0, v473.toNat]

def k0_chk8 (v476 : IVec S16 32) : Prop :=
  (∀ a x, ((![v476] : Fin 1 → IVec S16 32) a x).toNat < S3328.size a)
theorem k0_idx8_inb : ∀ (v476 : IVec S16 32) (k0_hw8 : k0_chk8 v476), ∀ a x, ((![v476] : Fin 1 → IVec S16 32) a x).toNat < S3328.size a := fun v476 k0_hw8 => k0_hw8
def k0_off9 (k0_t1 : Fin k0_t1_loop.trips) : Fin 3 → Nat :=
  let c7_i32_500 : BitVec 32 := 7#32
  let v485 : Index := Scalar.indexCast c7_i32_500
  let c0_i32_501 : BitVec 32 := 0#32
  let v486 : Index := Scalar.indexCast c0_i32_501
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v487 : Index := Scalar.indexCast v376
  ![7, 0, v487.toNat]

def k0_chk9 (v490 : IVec S16 32) : Prop :=
  (∀ a x, ((![v490] : Fin 1 → IVec S16 32) a x).toNat < S3328.size a)
theorem k0_idx9_inb : ∀ (v490 : IVec S16 32) (k0_hw9 : k0_chk9 v490), ∀ a x, ((![v490] : Fin 1 → IVec S16 32) a x).toNat < S3328.size a := fun v490 k0_hw9 => k0_hw9
def k0_off10 (k0_t1 : Fin k0_t1_loop.trips) : Fin 3 → Nat :=
  let c8_i32_506 : BitVec 32 := 8#32
  let v499 : Index := Scalar.indexCast c8_i32_506
  let c0_i32_507 : BitVec 32 := 0#32
  let v500 : Index := Scalar.indexCast c0_i32_507
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v501 : Index := Scalar.indexCast v376
  ![8, 0, v501.toNat]

def k0_chk10 (v504 : IVec S16 32) : Prop :=
  (∀ a x, ((![v504] : Fin 1 → IVec S16 32) a x).toNat < S3328.size a)
theorem k0_idx10_inb : ∀ (v504 : IVec S16 32) (k0_hw10 : k0_chk10 v504), ∀ a x, ((![v504] : Fin 1 → IVec S16 32) a x).toNat < S3328.size a := fun v504 k0_hw10 => k0_hw10
def k0_off11 (k0_t1 : Fin k0_t1_loop.trips) : Fin 3 → Nat :=
  let c9_i32_512 : BitVec 32 := 9#32
  let v513 : Index := Scalar.indexCast c9_i32_512
  let c0_i32_513 : BitVec 32 := 0#32
  let v514 : Index := Scalar.indexCast c0_i32_513
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v515 : Index := Scalar.indexCast v376
  ![9, 0, v515.toNat]

def k0_chk11 (v518 : IVec S16 32) : Prop :=
  (∀ a x, ((![v518] : Fin 1 → IVec S16 32) a x).toNat < S3328.size a)
theorem k0_idx11_inb : ∀ (v518 : IVec S16 32) (k0_hw11 : k0_chk11 v518), ∀ a x, ((![v518] : Fin 1 → IVec S16 32) a x).toNat < S3328.size a := fun v518 k0_hw11 => k0_hw11
def k0_off12 (k0_t1 : Fin k0_t1_loop.trips) : Fin 3 → Nat :=
  let c10_i32_518 : BitVec 32 := 10#32
  let v527 : Index := Scalar.indexCast c10_i32_518
  let c0_i32_519 : BitVec 32 := 0#32
  let v528 : Index := Scalar.indexCast c0_i32_519
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v529 : Index := Scalar.indexCast v376
  ![10, 0, v529.toNat]

def k0_chk12 (v532 : IVec S16 32) : Prop :=
  (∀ a x, ((![v532] : Fin 1 → IVec S16 32) a x).toNat < S3328.size a)
theorem k0_idx12_inb : ∀ (v532 : IVec S16 32) (k0_hw12 : k0_chk12 v532), ∀ a x, ((![v532] : Fin 1 → IVec S16 32) a x).toNat < S3328.size a := fun v532 k0_hw12 => k0_hw12
def k0_off13 (k0_t1 : Fin k0_t1_loop.trips) : Fin 3 → Nat :=
  let c11_i32_524 : BitVec 32 := 11#32
  let v541 : Index := Scalar.indexCast c11_i32_524
  let c0_i32_525 : BitVec 32 := 0#32
  let v542 : Index := Scalar.indexCast c0_i32_525
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v543 : Index := Scalar.indexCast v376
  ![11, 0, v543.toNat]

def k0_chk13 (v546 : IVec S16 32) : Prop :=
  (∀ a x, ((![v546] : Fin 1 → IVec S16 32) a x).toNat < S3328.size a)
theorem k0_idx13_inb : ∀ (v546 : IVec S16 32) (k0_hw13 : k0_chk13 v546), ∀ a x, ((![v546] : Fin 1 → IVec S16 32) a x).toNat < S3328.size a := fun v546 k0_hw13 => k0_hw13
def k0_off14 (k0_t1 : Fin k0_t1_loop.trips) : Fin 3 → Nat :=
  let c12_i32_530 : BitVec 32 := 12#32
  let v555 : Index := Scalar.indexCast c12_i32_530
  let c0_i32_531 : BitVec 32 := 0#32
  let v556 : Index := Scalar.indexCast c0_i32_531
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v557 : Index := Scalar.indexCast v376
  ![12, 0, v557.toNat]

def k0_chk14 (v560 : IVec S16 32) : Prop :=
  (∀ a x, ((![v560] : Fin 1 → IVec S16 32) a x).toNat < S3328.size a)
theorem k0_idx14_inb : ∀ (v560 : IVec S16 32) (k0_hw14 : k0_chk14 v560), ∀ a x, ((![v560] : Fin 1 → IVec S16 32) a x).toNat < S3328.size a := fun v560 k0_hw14 => k0_hw14
def k0_off15 (k0_t1 : Fin k0_t1_loop.trips) : Fin 3 → Nat :=
  let c13_i32_536 : BitVec 32 := 13#32
  let v569 : Index := Scalar.indexCast c13_i32_536
  let c0_i32_537 : BitVec 32 := 0#32
  let v570 : Index := Scalar.indexCast c0_i32_537
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v571 : Index := Scalar.indexCast v376
  ![13, 0, v571.toNat]

def k0_chk15 (v574 : IVec S16 32) : Prop :=
  (∀ a x, ((![v574] : Fin 1 → IVec S16 32) a x).toNat < S3328.size a)
theorem k0_idx15_inb : ∀ (v574 : IVec S16 32) (k0_hw15 : k0_chk15 v574), ∀ a x, ((![v574] : Fin 1 → IVec S16 32) a x).toNat < S3328.size a := fun v574 k0_hw15 => k0_hw15
def k0_off16 (k0_t1 : Fin k0_t1_loop.trips) : Fin 3 → Nat :=
  let c14_i32_542 : BitVec 32 := 14#32
  let v583 : Index := Scalar.indexCast c14_i32_542
  let c0_i32_543 : BitVec 32 := 0#32
  let v584 : Index := Scalar.indexCast c0_i32_543
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v585 : Index := Scalar.indexCast v376
  ![14, 0, v585.toNat]

def k0_chk16 (v588 : IVec S16 32) : Prop :=
  (∀ a x, ((![v588] : Fin 1 → IVec S16 32) a x).toNat < S3328.size a)
theorem k0_idx16_inb : ∀ (v588 : IVec S16 32) (k0_hw16 : k0_chk16 v588), ∀ a x, ((![v588] : Fin 1 → IVec S16 32) a x).toNat < S3328.size a := fun v588 k0_hw16 => k0_hw16
def k0_off17 (k0_t1 : Fin k0_t1_loop.trips) : Fin 3 → Nat :=
  let c15_i32_548 : BitVec 32 := 15#32
  let v597 : Index := Scalar.indexCast c15_i32_548
  let c0_i32_549 : BitVec 32 := 0#32
  let v598 : Index := Scalar.indexCast c0_i32_549
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v599 : Index := Scalar.indexCast v376
  ![15, 0, v599.toNat]

def k0_chk17 (v602 : IVec S16 32) : Prop :=
  (∀ a x, ((![v602] : Fin 1 → IVec S16 32) a x).toNat < S3328.size a)
theorem k0_idx17_inb : ∀ (v602 : IVec S16 32) (k0_hw17 : k0_chk17 v602), ∀ a x, ((![v602] : Fin 1 → IVec S16 32) a x).toNat < S3328.size a := fun v602 k0_hw17 => k0_hw17
def k0_off18 (k0_t1 : Fin k0_t1_loop.trips) : Fin 3 → Nat :=
  let c16_i32_554 : BitVec 32 := 16#32
  let v611 : Index := Scalar.indexCast c16_i32_554
  let c0_i32_555 : BitVec 32 := 0#32
  let v612 : Index := Scalar.indexCast c0_i32_555
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v613 : Index := Scalar.indexCast v376
  ![16, 0, v613.toNat]

def k0_chk18 (v616 : IVec S16 32) : Prop :=
  (∀ a x, ((![v616] : Fin 1 → IVec S16 32) a x).toNat < S3328.size a)
theorem k0_idx18_inb : ∀ (v616 : IVec S16 32) (k0_hw18 : k0_chk18 v616), ∀ a x, ((![v616] : Fin 1 → IVec S16 32) a x).toNat < S3328.size a := fun v616 k0_hw18 => k0_hw18
def k0_off19 (k0_t1 : Fin k0_t1_loop.trips) : Fin 3 → Nat :=
  let c17_i32_560 : BitVec 32 := 17#32
  let v625 : Index := Scalar.indexCast c17_i32_560
  let c0_i32_561 : BitVec 32 := 0#32
  let v626 : Index := Scalar.indexCast c0_i32_561
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v627 : Index := Scalar.indexCast v376
  ![17, 0, v627.toNat]

def k0_chk19 (v630 : IVec S16 32) : Prop :=
  (∀ a x, ((![v630] : Fin 1 → IVec S16 32) a x).toNat < S3328.size a)
theorem k0_idx19_inb : ∀ (v630 : IVec S16 32) (k0_hw19 : k0_chk19 v630), ∀ a x, ((![v630] : Fin 1 → IVec S16 32) a x).toNat < S3328.size a := fun v630 k0_hw19 => k0_hw19
def k0_off20 (k0_t1 : Fin k0_t1_loop.trips) : Fin 3 → Nat :=
  let c18_i32_566 : BitVec 32 := 18#32
  let v639 : Index := Scalar.indexCast c18_i32_566
  let c0_i32_567 : BitVec 32 := 0#32
  let v640 : Index := Scalar.indexCast c0_i32_567
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v641 : Index := Scalar.indexCast v376
  ![18, 0, v641.toNat]

def k0_chk20 (v644 : IVec S16 32) : Prop :=
  (∀ a x, ((![v644] : Fin 1 → IVec S16 32) a x).toNat < S3328.size a)
theorem k0_idx20_inb : ∀ (v644 : IVec S16 32) (k0_hw20 : k0_chk20 v644), ∀ a x, ((![v644] : Fin 1 → IVec S16 32) a x).toNat < S3328.size a := fun v644 k0_hw20 => k0_hw20
def k0_off21 (k0_t1 : Fin k0_t1_loop.trips) : Fin 3 → Nat :=
  let c19_i32_572 : BitVec 32 := 19#32
  let v653 : Index := Scalar.indexCast c19_i32_572
  let c0_i32_573 : BitVec 32 := 0#32
  let v654 : Index := Scalar.indexCast c0_i32_573
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v655 : Index := Scalar.indexCast v376
  ![19, 0, v655.toNat]

def k0_chk21 (v658 : IVec S16 32) : Prop :=
  (∀ a x, ((![v658] : Fin 1 → IVec S16 32) a x).toNat < S3328.size a)
theorem k0_idx21_inb : ∀ (v658 : IVec S16 32) (k0_hw21 : k0_chk21 v658), ∀ a x, ((![v658] : Fin 1 → IVec S16 32) a x).toNat < S3328.size a := fun v658 k0_hw21 => k0_hw21
def k0_off22 (k0_t1 : Fin k0_t1_loop.trips) : Fin 3 → Nat :=
  let c20_i32_578 : BitVec 32 := 20#32
  let v667 : Index := Scalar.indexCast c20_i32_578
  let c0_i32_579 : BitVec 32 := 0#32
  let v668 : Index := Scalar.indexCast c0_i32_579
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v669 : Index := Scalar.indexCast v376
  ![20, 0, v669.toNat]

def k0_chk22 (v672 : IVec S16 32) : Prop :=
  (∀ a x, ((![v672] : Fin 1 → IVec S16 32) a x).toNat < S3328.size a)
theorem k0_idx22_inb : ∀ (v672 : IVec S16 32) (k0_hw22 : k0_chk22 v672), ∀ a x, ((![v672] : Fin 1 → IVec S16 32) a x).toNat < S3328.size a := fun v672 k0_hw22 => k0_hw22
def k0_off23 (k0_t1 : Fin k0_t1_loop.trips) : Fin 3 → Nat :=
  let c21_i32_584 : BitVec 32 := 21#32
  let v681 : Index := Scalar.indexCast c21_i32_584
  let c0_i32_585 : BitVec 32 := 0#32
  let v682 : Index := Scalar.indexCast c0_i32_585
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v683 : Index := Scalar.indexCast v376
  ![21, 0, v683.toNat]

def k0_chk23 (v686 : IVec S16 32) : Prop :=
  (∀ a x, ((![v686] : Fin 1 → IVec S16 32) a x).toNat < S3328.size a)
theorem k0_idx23_inb : ∀ (v686 : IVec S16 32) (k0_hw23 : k0_chk23 v686), ∀ a x, ((![v686] : Fin 1 → IVec S16 32) a x).toNat < S3328.size a := fun v686 k0_hw23 => k0_hw23
def k0_off24 (k0_t1 : Fin k0_t1_loop.trips) : Fin 3 → Nat :=
  let c22_i32_590 : BitVec 32 := 22#32
  let v695 : Index := Scalar.indexCast c22_i32_590
  let c0_i32_591 : BitVec 32 := 0#32
  let v696 : Index := Scalar.indexCast c0_i32_591
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v697 : Index := Scalar.indexCast v376
  ![22, 0, v697.toNat]

def k0_chk24 (v700 : IVec S16 32) : Prop :=
  (∀ a x, ((![v700] : Fin 1 → IVec S16 32) a x).toNat < S3328.size a)
theorem k0_idx24_inb : ∀ (v700 : IVec S16 32) (k0_hw24 : k0_chk24 v700), ∀ a x, ((![v700] : Fin 1 → IVec S16 32) a x).toNat < S3328.size a := fun v700 k0_hw24 => k0_hw24
def k0_off25 (k0_t1 : Fin k0_t1_loop.trips) : Fin 3 → Nat :=
  let c23_i32_596 : BitVec 32 := 23#32
  let v709 : Index := Scalar.indexCast c23_i32_596
  let c0_i32_597 : BitVec 32 := 0#32
  let v710 : Index := Scalar.indexCast c0_i32_597
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v711 : Index := Scalar.indexCast v376
  ![23, 0, v711.toNat]

def k0_chk25 (v714 : IVec S16 32) : Prop :=
  (∀ a x, ((![v714] : Fin 1 → IVec S16 32) a x).toNat < S3328.size a)
theorem k0_idx25_inb : ∀ (v714 : IVec S16 32) (k0_hw25 : k0_chk25 v714), ∀ a x, ((![v714] : Fin 1 → IVec S16 32) a x).toNat < S3328.size a := fun v714 k0_hw25 => k0_hw25
def k0_off26 (k0_t1 : Fin k0_t1_loop.trips) : Fin 3 → Nat :=
  let c24_i32_602 : BitVec 32 := 24#32
  let v723 : Index := Scalar.indexCast c24_i32_602
  let c0_i32_603 : BitVec 32 := 0#32
  let v724 : Index := Scalar.indexCast c0_i32_603
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v725 : Index := Scalar.indexCast v376
  ![24, 0, v725.toNat]

def k0_chk26 (v728 : IVec S16 32) : Prop :=
  (∀ a x, ((![v728] : Fin 1 → IVec S16 32) a x).toNat < S3328.size a)
theorem k0_idx26_inb : ∀ (v728 : IVec S16 32) (k0_hw26 : k0_chk26 v728), ∀ a x, ((![v728] : Fin 1 → IVec S16 32) a x).toNat < S3328.size a := fun v728 k0_hw26 => k0_hw26
def k0_off27 (k0_t1 : Fin k0_t1_loop.trips) : Fin 3 → Nat :=
  let c25_i32_608 : BitVec 32 := 25#32
  let v737 : Index := Scalar.indexCast c25_i32_608
  let c0_i32_609 : BitVec 32 := 0#32
  let v738 : Index := Scalar.indexCast c0_i32_609
  let c0_i32_0 : BitVec 32 := 0#32
  let c1_i32 : BitVec 32 := 1#32
  let arg10 : BitVec 32 := Scf.iv c0_i32_0 c1_i32 k0_t1
  let c16_i32_455 : BitVec 32 := 16#32
  let v376 : BitVec 32 := Scalar.muli arg10 c16_i32_455
  let v739 : Index := Scalar.indexCast v376
  ![25, 0, v739.toNat]
@[reducible] def k0_t2_loop : Scf.Loop 32 :=
  let c0_i32_449 : BitVec 32 := 0#32
  let c8_i32_450 : BitVec 32 := 8#32
  let v369 : BitVec 32 := Scalar.addi c0_i32_449 c8_i32_450
  let c1_i32_451 : BitVec 32 := 1#32
  ⟨c0_i32_449, v369, c1_i32_451⟩
def k0_off28 (k0_t2 : Fin k0_t2_loop.trips) : Fin 3 → Nat :=
  let c0_i32_454 : BitVec 32 := 0#32
  let v371 : Index := Scalar.indexCast c0_i32_454
  let c0_i32_455 : BitVec 32 := 0#32
  let v372 : Index := Scalar.indexCast c0_i32_455
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v373 : Index := Scalar.indexCast v370
  ![0, 0, v373.toNat]
def k0_off29 (k0_t2 : Fin k0_t2_loop.trips) : Fin 3 → Nat :=
  let c1_i32_456 : BitVec 32 := 1#32
  let v375 : Index := Scalar.indexCast c1_i32_456
  let c0_i32_457 : BitVec 32 := 0#32
  let v376 : Index := Scalar.indexCast c0_i32_457
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v377 : Index := Scalar.indexCast v370
  ![1, 0, v377.toNat]
def k0_off30 (k0_t2 : Fin k0_t2_loop.trips) : Fin 3 → Nat :=
  let c2_i32_458 : BitVec 32 := 2#32
  let v380 : Index := Scalar.indexCast c2_i32_458
  let c0_i32_459 : BitVec 32 := 0#32
  let v381 : Index := Scalar.indexCast c0_i32_459
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v382 : Index := Scalar.indexCast v370
  ![2, 0, v382.toNat]
def k0_off31 (k0_t2 : Fin k0_t2_loop.trips) : Fin 3 → Nat :=
  let c3_i32_460 : BitVec 32 := 3#32
  let v385 : Index := Scalar.indexCast c3_i32_460
  let c0_i32_461 : BitVec 32 := 0#32
  let v386 : Index := Scalar.indexCast c0_i32_461
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v387 : Index := Scalar.indexCast v370
  ![3, 0, v387.toNat]
def k0_off32 (k0_t2 : Fin k0_t2_loop.trips) : Fin 3 → Nat :=
  let c4_i32_462 : BitVec 32 := 4#32
  let v390 : Index := Scalar.indexCast c4_i32_462
  let c0_i32_463 : BitVec 32 := 0#32
  let v391 : Index := Scalar.indexCast c0_i32_463
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v392 : Index := Scalar.indexCast v370
  ![4, 0, v392.toNat]
def k0_off33 (k0_t2 : Fin k0_t2_loop.trips) : Fin 3 → Nat :=
  let c5_i32_464 : BitVec 32 := 5#32
  let v395 : Index := Scalar.indexCast c5_i32_464
  let c0_i32_465 : BitVec 32 := 0#32
  let v396 : Index := Scalar.indexCast c0_i32_465
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v397 : Index := Scalar.indexCast v370
  ![5, 0, v397.toNat]
def k0_off34 (k0_t2 : Fin k0_t2_loop.trips) : Fin 3 → Nat :=
  let c6_i32_466 : BitVec 32 := 6#32
  let v400 : Index := Scalar.indexCast c6_i32_466
  let c0_i32_467 : BitVec 32 := 0#32
  let v401 : Index := Scalar.indexCast c0_i32_467
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v402 : Index := Scalar.indexCast v370
  ![6, 0, v402.toNat]
def k0_off35 (k0_t2 : Fin k0_t2_loop.trips) : Fin 3 → Nat :=
  let c7_i32_468 : BitVec 32 := 7#32
  let v405 : Index := Scalar.indexCast c7_i32_468
  let c0_i32_469 : BitVec 32 := 0#32
  let v406 : Index := Scalar.indexCast c0_i32_469
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v407 : Index := Scalar.indexCast v370
  ![7, 0, v407.toNat]
def k0_off36 (k0_t2 : Fin k0_t2_loop.trips) : Fin 3 → Nat :=
  let c8_i32_470 : BitVec 32 := 8#32
  let v410 : Index := Scalar.indexCast c8_i32_470
  let c0_i32_471 : BitVec 32 := 0#32
  let v411 : Index := Scalar.indexCast c0_i32_471
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v412 : Index := Scalar.indexCast v370
  ![8, 0, v412.toNat]
def k0_off37 (k0_t2 : Fin k0_t2_loop.trips) : Fin 3 → Nat :=
  let c9_i32_472 : BitVec 32 := 9#32
  let v415 : Index := Scalar.indexCast c9_i32_472
  let c0_i32_473 : BitVec 32 := 0#32
  let v416 : Index := Scalar.indexCast c0_i32_473
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v417 : Index := Scalar.indexCast v370
  ![9, 0, v417.toNat]
def k0_off38 (k0_t2 : Fin k0_t2_loop.trips) : Fin 3 → Nat :=
  let c10_i32_474 : BitVec 32 := 10#32
  let v420 : Index := Scalar.indexCast c10_i32_474
  let c0_i32_475 : BitVec 32 := 0#32
  let v421 : Index := Scalar.indexCast c0_i32_475
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v422 : Index := Scalar.indexCast v370
  ![10, 0, v422.toNat]
def k0_off39 (k0_t2 : Fin k0_t2_loop.trips) : Fin 3 → Nat :=
  let c11_i32_476 : BitVec 32 := 11#32
  let v425 : Index := Scalar.indexCast c11_i32_476
  let c0_i32_477 : BitVec 32 := 0#32
  let v426 : Index := Scalar.indexCast c0_i32_477
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v427 : Index := Scalar.indexCast v370
  ![11, 0, v427.toNat]
def k0_off40 (k0_t2 : Fin k0_t2_loop.trips) : Fin 3 → Nat :=
  let c12_i32_478 : BitVec 32 := 12#32
  let v430 : Index := Scalar.indexCast c12_i32_478
  let c0_i32_479 : BitVec 32 := 0#32
  let v431 : Index := Scalar.indexCast c0_i32_479
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v432 : Index := Scalar.indexCast v370
  ![12, 0, v432.toNat]
def k0_off41 (k0_t2 : Fin k0_t2_loop.trips) : Fin 3 → Nat :=
  let c13_i32_480 : BitVec 32 := 13#32
  let v435 : Index := Scalar.indexCast c13_i32_480
  let c0_i32_481 : BitVec 32 := 0#32
  let v436 : Index := Scalar.indexCast c0_i32_481
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v437 : Index := Scalar.indexCast v370
  ![13, 0, v437.toNat]
def k0_off42 (k0_t2 : Fin k0_t2_loop.trips) : Fin 3 → Nat :=
  let c14_i32_482 : BitVec 32 := 14#32
  let v440 : Index := Scalar.indexCast c14_i32_482
  let c0_i32_483 : BitVec 32 := 0#32
  let v441 : Index := Scalar.indexCast c0_i32_483
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v442 : Index := Scalar.indexCast v370
  ![14, 0, v442.toNat]
def k0_off43 (k0_t2 : Fin k0_t2_loop.trips) : Fin 3 → Nat :=
  let c15_i32_484 : BitVec 32 := 15#32
  let v445 : Index := Scalar.indexCast c15_i32_484
  let c0_i32_485 : BitVec 32 := 0#32
  let v446 : Index := Scalar.indexCast c0_i32_485
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v447 : Index := Scalar.indexCast v370
  ![15, 0, v447.toNat]
def k0_off44 (k0_t2 : Fin k0_t2_loop.trips) : Fin 3 → Nat :=
  let c16_i32_486 : BitVec 32 := 16#32
  let v450 : Index := Scalar.indexCast c16_i32_486
  let c0_i32_487 : BitVec 32 := 0#32
  let v451 : Index := Scalar.indexCast c0_i32_487
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v452 : Index := Scalar.indexCast v370
  ![16, 0, v452.toNat]
def k0_off45 (k0_t2 : Fin k0_t2_loop.trips) : Fin 3 → Nat :=
  let c17_i32_488 : BitVec 32 := 17#32
  let v455 : Index := Scalar.indexCast c17_i32_488
  let c0_i32_489 : BitVec 32 := 0#32
  let v456 : Index := Scalar.indexCast c0_i32_489
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v457 : Index := Scalar.indexCast v370
  ![17, 0, v457.toNat]
def k0_off46 (k0_t2 : Fin k0_t2_loop.trips) : Fin 3 → Nat :=
  let c18_i32_490 : BitVec 32 := 18#32
  let v460 : Index := Scalar.indexCast c18_i32_490
  let c0_i32_491 : BitVec 32 := 0#32
  let v461 : Index := Scalar.indexCast c0_i32_491
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v462 : Index := Scalar.indexCast v370
  ![18, 0, v462.toNat]
def k0_off47 (k0_t2 : Fin k0_t2_loop.trips) : Fin 3 → Nat :=
  let c19_i32_492 : BitVec 32 := 19#32
  let v465 : Index := Scalar.indexCast c19_i32_492
  let c0_i32_493 : BitVec 32 := 0#32
  let v466 : Index := Scalar.indexCast c0_i32_493
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v467 : Index := Scalar.indexCast v370
  ![19, 0, v467.toNat]
def k0_off48 (k0_t2 : Fin k0_t2_loop.trips) : Fin 3 → Nat :=
  let c20_i32_494 : BitVec 32 := 20#32
  let v470 : Index := Scalar.indexCast c20_i32_494
  let c0_i32_495 : BitVec 32 := 0#32
  let v471 : Index := Scalar.indexCast c0_i32_495
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v472 : Index := Scalar.indexCast v370
  ![20, 0, v472.toNat]
def k0_off49 (k0_t2 : Fin k0_t2_loop.trips) : Fin 3 → Nat :=
  let c21_i32_496 : BitVec 32 := 21#32
  let v475 : Index := Scalar.indexCast c21_i32_496
  let c0_i32_497 : BitVec 32 := 0#32
  let v476 : Index := Scalar.indexCast c0_i32_497
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v477 : Index := Scalar.indexCast v370
  ![21, 0, v477.toNat]
def k0_off50 (k0_t2 : Fin k0_t2_loop.trips) : Fin 3 → Nat :=
  let c22_i32_498 : BitVec 32 := 22#32
  let v480 : Index := Scalar.indexCast c22_i32_498
  let c0_i32_499 : BitVec 32 := 0#32
  let v481 : Index := Scalar.indexCast c0_i32_499
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v482 : Index := Scalar.indexCast v370
  ![22, 0, v482.toNat]
def k0_off51 (k0_t2 : Fin k0_t2_loop.trips) : Fin 3 → Nat :=
  let c23_i32_500 : BitVec 32 := 23#32
  let v485 : Index := Scalar.indexCast c23_i32_500
  let c0_i32_501 : BitVec 32 := 0#32
  let v486 : Index := Scalar.indexCast c0_i32_501
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v487 : Index := Scalar.indexCast v370
  ![23, 0, v487.toNat]
def k0_off52 (k0_t2 : Fin k0_t2_loop.trips) : Fin 3 → Nat :=
  let c24_i32_502 : BitVec 32 := 24#32
  let v490 : Index := Scalar.indexCast c24_i32_502
  let c0_i32_503 : BitVec 32 := 0#32
  let v491 : Index := Scalar.indexCast c0_i32_503
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v492 : Index := Scalar.indexCast v370
  ![24, 0, v492.toNat]
def k0_off53 (k0_t2 : Fin k0_t2_loop.trips) : Fin 3 → Nat :=
  let c25_i32_504 : BitVec 32 := 25#32
  let v495 : Index := Scalar.indexCast c25_i32_504
  let c0_i32_505 : BitVec 32 := 0#32
  let v496 : Index := Scalar.indexCast c0_i32_505
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v497 : Index := Scalar.indexCast v370
  ![25, 0, v497.toNat]
def k0_off54 (k0_t2 : Fin k0_t2_loop.trips) : Fin 1 → Nat :=
  let c0_i32_449 : BitVec 32 := 0#32
  let c1_i32_451 : BitVec 32 := 1#32
  let arg10 : BitVec 32 := Scf.iv c0_i32_449 c1_i32_451 k0_t2
  let c16_i32_453 : BitVec 32 := 16#32
  let v370 : BitVec 32 := Scalar.muli arg10 c16_i32_453
  let v500 : Index := Scalar.indexCast v370
  ![v500.toNat]
def k0_off55 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x26 : Shape := ⟨2, ![4096, 26]⟩
abbrev S1040000x1 : Shape := ⟨2, ![1040000, 1]⟩
abbrev S1 : Shape := ⟨1, ![1]⟩
abbrev S26 : Shape := ⟨1, ![26]⟩
abbrev S106496 : Shape := ⟨1, ![106496]⟩
abbrev S_ : Shape := ⟨0, ![]⟩
abbrev S106496x1 : Shape := ⟨2, ![106496, 1]⟩
abbrev S1x1 : Shape := ⟨2, ![1, 1]⟩
abbrev S4096x26x1 : Shape := ⟨3, ![4096, 26, 1]⟩
abbrev S1x1x1 : Shape := ⟨3, ![1, 1, 1]⟩
abbrev S4096x1 : Shape := ⟨2, ![4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S4096x26, .i32⟩
  | .hbm, ⟨2, _⟩ => ⟨S1040000x1, .f32⟩
  | .hbm, ⟨3, _⟩ => ⟨S1, .f32⟩
  | .hbm, ⟨4, _⟩ => ⟨S26, .i32⟩
  | .hbm, ⟨5, _⟩ => ⟨S106496, .i32⟩
  | .hbm, ⟨6, _⟩ => ⟨S_, .i32⟩
  | .hbm, ⟨7, _⟩ => ⟨S106496, .i32⟩
  | .hbm, ⟨8, _⟩ => ⟨S106496, .i1⟩
  | .hbm, ⟨9, _⟩ => ⟨S_, .i32⟩
  | .hbm, ⟨10, _⟩ => ⟨S106496, .i32⟩
  | .hbm, ⟨11, _⟩ => ⟨S106496, .i32⟩
  | .hbm, ⟨12, _⟩ => ⟨S106496, .i32⟩
  | .hbm, ⟨13, _⟩ => ⟨S106496x1, .i32⟩
  | .hbm, ⟨14, _⟩ => ⟨S1, .i32⟩
  | .hbm, ⟨15, _⟩ => ⟨S_, .i32⟩
  | .hbm, ⟨16, _⟩ => ⟨S106496x1, .i32⟩
  | .hbm, ⟨17, _⟩ => ⟨S106496x1, .i1⟩
  | .hbm, ⟨18, _⟩ => ⟨S1x1, .i32⟩
  | .hbm, ⟨19, _⟩ => ⟨S106496x1, .i32⟩
  | .hbm, ⟨20, _⟩ => ⟨S106496x1, .i1⟩
  | .hbm, ⟨21, _⟩ => ⟨S106496x1, .i1⟩
  | .hbm, ⟨22, _⟩ => ⟨S_, .i1⟩
  | .hbm, ⟨23, _⟩ => ⟨S106496, .i1⟩
  | .hbm, ⟨24, _⟩ => ⟨S106496, .i32⟩
  | .hbm, ⟨25, _⟩ => ⟨S_, .i32⟩
  | .hbm, ⟨26, _⟩ => ⟨S106496, .i32⟩
  | .hbm, ⟨27, _⟩ => ⟨S106496, .i32⟩
  | .hbm, ⟨28, _⟩ => ⟨S4096x26, .i32⟩
  | .hbm, ⟨29, _⟩ => ⟨S4096x26, .i32⟩
  | .hbm, ⟨30, _⟩ => ⟨S_, .i32⟩
  | .hbm, ⟨31, _⟩ => ⟨S4096x26, .i32⟩
  | .hbm, ⟨32, _⟩ => ⟨S4096x26, .i1⟩
  | .hbm, ⟨33, _⟩ => ⟨S_, .i32⟩
  | .hbm, ⟨34, _⟩ => ⟨S4096x26, .i32⟩
  | .hbm, ⟨35, _⟩ => ⟨S4096x26, .i32⟩
  | .hbm, ⟨36, _⟩ => ⟨S4096x26, .i32⟩
  | .hbm, ⟨37, _⟩ => ⟨S4096x26x1, .i32⟩
  | .hbm, ⟨38, _⟩ => ⟨S1, .i32⟩
  | .hbm, ⟨39, _⟩ => ⟨S_, .i32⟩
  | .hbm, ⟨40, _⟩ => ⟨S4096x26x1, .i32⟩
  | .hbm, ⟨41, _⟩ => ⟨S4096x26x1, .i1⟩
  | .hbm, ⟨42, _⟩ => ⟨S1x1x1, .i32⟩
  | .hbm, ⟨43, _⟩ => ⟨S4096x26x1, .i32⟩
  | .hbm, ⟨44, _⟩ => ⟨S4096x26x1, .i1⟩
  | .hbm, ⟨45, _⟩ => ⟨S4096x26x1, .i1⟩
  | .hbm, ⟨46, _⟩ => ⟨S_, .i1⟩
  | .hbm, ⟨47, _⟩ => ⟨S4096x26, .i1⟩
  | .hbm, ⟨48, _⟩ => ⟨S4096x26x1, .f32⟩
  | .hbm, ⟨49, _⟩ => ⟨S4096x26x1, .i1⟩
  | .hbm, ⟨50, _⟩ => ⟨S_, .f32⟩
  | .hbm, ⟨51, _⟩ => ⟨S4096x26x1, .f32⟩
  | .hbm, ⟨52, _⟩ => ⟨S4096x26x1, .f32⟩
  | .hbm, ⟨53, _⟩ => ⟨S_, .f32⟩
  | .hbm, ⟨54, _⟩ => ⟨S4096x1, .f32⟩
  | .hbm, ⟨55, _⟩ => ⟨S1x1, .f32⟩
  | .hbm, ⟨56, _⟩ => ⟨S4096x1, .f32⟩
  | .hbm, ⟨57, _⟩ => ⟨S4096x1, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_c_4 : Ref sig .tc := ⟨.hbm, 25, rfl⟩
abbrev main_call0_v14 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v4 : Ref sig .tc := ⟨.hbm, 52, rfl⟩
abbrev main_cst : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩

abbrev nD : Nat := 1
abbrev τ : Topo := Topo.v7x

variable {F : FTy → Type} [FloatOps F]
-- ==== Proof.Issue.lean ====
/-
  Several indirect gathers issued on one DMA semaphore before any is waited for. Each gather moves its rows one by
  one, every row crediting the semaphore by the same amount, so the rows of all the gathers together are one counted
  batch (`Transfers.Batch`) and a gather of `o` rows is its next `o` transfers. `issue` is the rule for one such
  gather: what each row needs goes in, what each row delivers is the batch's to hand back at the last wait.
-/
module

public import Idealize.ShloMosaic.Lib.Batch
public import Idealize.ShloMosaic.Lib.SparseCore.Stream

@[expose] public section

noncomputable section

namespace Cert.Proof.Issue

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ}

local notation "𝕄" => MT nD τ sig Ix (Elt F) Name U Lvl

/-- The `o` transfers of a batch of `n` that follow the first `k`. -/
def next {n : ℕ} (k o : ℕ) (h : k + o ≤ n) (j : Fin o) : Fin n := ⟨k + j.val, by have := j.isLt; omega⟩

theorem next_injective {n k o : ℕ} (h : k + o ≤ n) : Function.Injective (next k o h) := fun i j e => by
  have := congrArg Fin.val e
  simp only [next] at this
  exact Fin.ext (by omega)

/-- The transfers from `k` on are the next `o` and those from `k + o` on. -/
theorem bigSep_pending_next {n : ℕ} (Φ : Fin n → sProp 𝕄) (k o : ℕ) (h : k + o ≤ n) :
    bigSep (Transfers.pending k) Φ
      = iprop(bigSep Finset.univ (fun j : Fin o => Φ (next k o h j)) ∗ bigSep (Transfers.pending (k + o)) Φ) := by
  classical
  have hset : Transfers.pending (n := n) k = (Finset.univ.map ⟨next k o h, next_injective h⟩) ∪ Transfers.pending (k + o) := by
    ext t
    simp only [Transfers.pending, Finset.mem_filter, Finset.mem_univ, true_and, Finset.mem_union, Finset.mem_map,
      Function.Embedding.coeFn_mk]
    constructor
    · intro hk
      by_cases ho : k + o ≤ t.val
      · exact .inr ho
      · exact .inl ⟨⟨t.val - k, by omega⟩, Fin.ext (by simp only [next]; omega)⟩
    · rintro (⟨j, rfl⟩ | ho)
      · exact Nat.le_add_right _ _
      · omega
  have hdis : Disjoint (Finset.univ.map ⟨next k o h, next_injective h⟩) (Transfers.pending (n := n) (k + o)) := by
    refine Finset.disjoint_left.mpr fun t ht ht' => ?_
    obtain ⟨j, -, rfl⟩ := Finset.mem_map.mp ht
    have h1 : k + o ≤ (next k o h j).val := (Finset.mem_filter.mp ht').2
    have := j.isLt
    simp only [next] at h1
    omega
  rw [hset, BI.bigSep_union hdis, BI.bigSep_map]
  rfl

variable (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- One gather of a batch, at the head of a program: for each of its rows, the row of the destination, the row's
    entry of the offset list and a share of the source go to the transfer; what they become once the row has
    landed must entail the batch's delivery at the row's place. The batch comes back with the rows issued. -/
theorem issue [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {cont : PUnit → Prog (TpuEff nD τ sig (Elt F) Λ c.2) α}
    {qk : Fin (s.size hg.axis') → PosShare TreeShare} {qo : PosShare TreeShare}
    {fs : Buf (Elt F) (src.view.loc c)} {fd : Buf (Elt F) (dst.view.loc c)} {fo : Buf (Elt F) (offs.view.loc c)}
    (ι : Ix) (N : ℕ) {n k u : ℕ} {D : Fin n → sProp 𝕄} (hk : k + s.size hg.axis' ≤ n) (hu : u ≤ k * N)
    (hrow : ∀ j, (dst.slice (s.rowRect hg.axis' j) (s.stride_rowRect hg.axis' j)).view.dmaCredit = N)
    (hin : ∀ x, (offs.view.read (Elt F) fo x).toNat < s₀.size hg.axis)
    (hD : ∀ j, iprop(((dst.view.loc c ↦[(dst.view.slice (s.rowRect hg.axis' j)).set]{fullShare}
            ((dst.view.slice (s.rowRect hg.axis' j)).write (Elt F) fd
              (fun i => src.view.read (Elt F) fs (hg.rowIdx (rows (offs.view.read (Elt F) fo) hn hin j) i)) Finset.univ))
          ∗ (offs.view.loc c ↦[{offs.view.emb (si.rowMajor.symm (j.cast hn.symm))}]{qo} fo)) ∗ (src.view.loc c ↦[src.view.set]{qk j} fs))
        ⊢ D (next k _ hk j)) :
    iprop(bigSep Finset.univ (fun j => iprop(((dst.view.loc c ↦[(dst.view.slice (s.rowRect hg.axis' j)).set]{fullShare} fd)
          ∗ (offs.view.loc c ↦[{offs.view.emb (si.rowMajor.symm (j.cast hn.symm))}]{qo} fo)) ∗ (src.view.loc c ↦[src.view.set]{qk j} fs)))
        ∗ Transfers.Batch EC c (.dma sem) ι N D k u)
      ⊢ iprop((Transfers.Batch EC c (.dma sem) ι N D (k + s.size hg.axis') u -∗ wp frame (wpE defs 𝒱 c bd) Set.univ (cont ⟨⟩) Q)
          -∗ wp frame (wpE defs 𝒱 c bd) Set.univ (enqueueIndirectGather hp src dst hg offs hn sem hsrc he hsp hr >>= cont) Q) := by
  rw [enqueueIndirectGather_bind]
  let T : Stream nD τ sig (Elt F) :=
    Stream.issued c offs.view hn sem (fun j w => (rowOf (s₀.size hg.axis) w).map (gatherRow c src dst hg sem hsrc he hsp hr j)) 0
  let moved : Fin (s.size hg.axis') → RowDma τ sig (Elt F) c.2 sem := fun j => gatherRow c src dst hg sem hsrc he hsp hr j (rows (offs.view.read (Elt F) fo) hn hin j)
  have hagree : T.RowsAgree := fun j x x' ρ ρ' h h' => by
    obtain ⟨_, _, rfl⟩ := Option.map_eq_some_iff.mp h
    obtain ⟨_, _, rfl⟩ := Option.map_eq_some_iff.mp h'
    rfl
  have hmoved : ∀ j, T.row j (T.word fo j) = some (moved j) := fun j => by
    change (rowOf (s₀.size hg.axis) (offs.view.read (Elt F) fo (T.entry j))).map _ = _
    rw [rowOf_of_lt (hin _)]; rfl
  have hsum : ∑ j, (moved j).dst.view.dmaCredit = s.size hg.axis' * N :=
    sum_rowCredit_eq (fun j => (moved j).dst.view.dmaCredit) hrow rfl
  have hrest : (k + s.size hg.axis') * N - u = (k * N - u) + s.size hg.axis' * N := by rw [Nat.add_mul]; omega
  unfold Transfers.Batch
  rw [hrest, ← tallyAt_add]
  iintro ⟨Hrows, %γ, %γ₀, %κ, #Hinv, Hright, H0, Hcred⟩ Hk
  ihave Hright' := (Entails.of_eq (bigSep_pending_next (fun t => count EC (γ t) 0) k _ hk)) $$ Hright
  icases Hright' with ⟨Hnow, Hlater⟩
  iapply (wp_enqueueIndirectDma 𝒱 c bd Set.univ (qo := qo) (fo := fo) (rd := moved) ι _ hagree hmoved hsum) $$ [Hrows Hnow]
  · have hres : ∀ j, iprop(inv κ (Transfers.batchBody EC (c, SemLoc.dma sem) N D γ γ₀)
          ∗ ((((dst.view.loc c ↦[(dst.view.slice (s.rowRect hg.axis' j)).set]{fullShare} fd)
            ∗ (offs.view.loc c ↦[{offs.view.emb (si.rowMajor.symm (j.cast hn.symm))}]{qo} fo)) ∗ (src.view.loc c ↦[src.view.set]{qk j} fs))
            ∗ count EC (γ (next k _ hk j)) 0))
        ⊢ iprop(T.heldEntry qo fo j ∗ (T.heldEntry qo fo j -∗ rowRes c (moved j))) := fun j => by
      iintro ⟨#Hinv, ⟨⟨Hd, He⟩, Hs⟩, Hc⟩
      isplitl [He]; · iexact He
      iintro He
      unfold rowRes
      iexists qk j, fs, iprop((dst.view.loc c ↦[(dst.view.slice (s.rowRect hg.axis' j)).set]{fullShare}
            ((dst.view.slice (s.rowRect hg.axis' j)).write (Elt F) fd
              (fun i => src.view.read (Elt F) fs (hg.rowIdx (rows (offs.view.read (Elt F) fo) hn hin j) i)) Finset.univ))
          ∗ (offs.view.loc c ↦[{offs.view.emb (si.rowMajor.symm (j.cast hn.symm))}]{qo} fo))
      isplitl [Hs]; · iexact Hs
      isplitl [Hd He]
      · iapply writeUpdate_frame
        isplitl [Hd]
        · iapply (pointsTo_writeUpdate c (v := dst.view.slice (s.rowRect hg.axis' j)) subset_rfl) $$ Hd
        · iexact He
      · have hamt : (moved j).dst.view.amount (.dma sem) = N := hrow j
        rw [hamt]
        iapply (Transfers.batch_creditUpdate EC (D := D) (γ₀ := γ₀) (ι := κ) (next k _ hk j) (hD j))
        isplitr; · iexact Hinv
        iexact Hc
    unfold Stream.res
    ihave H := Transfers.bigSep_sep_in _ _ _ $$ [Hrows Hnow]; · isplitl [Hrows] <;> iassumption
    iapply (Transfers.bigSep_mono_pers Finset.univ _ _ _ fun j _ => hres j)
    isplitr; · iexact Hinv
    iexact H
  · iintro Hnew
    iapply Hk
    iexists γ, γ₀, κ
    isplitr; · iexact Hinv
    isplitl [Hlater]; · iexact Hlater
    isplitl [H0]; · iexact H0
    isplitl [Hcred] <;> iassumption

end Cert.Proof.Issue

end
-- ==== Proof.Setup.lean ====
/-
  The kernel's program as the launch theorem sees it, and the buffers of one tile under their names: the packed words,
  the table and the result in HBM; the tile's own words, index lists, fetched rows and sums in its memory.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof.Run

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (SparseCore.Cfg.HIx 1) (Elt F) ℕ UU ℕ

abbrev EH : Emb UH (MT nD τ sig (SparseCore.Cfg.HIx 1) (Elt F) ℕ UU ℕ) := embL

/-! ## The buffers of a tile -/

/-- The packed words of all samples. -/
abbrev xcV : Memref sig .scVector .hbm S106496 .i32 := Memref.whole main_v3_scv
/-- The table. -/
abbrev wV : Memref sig .scVector .hbm S1x1040000 .f32 := Memref.whole main_v4_scv
/-- The sums of all samples. -/
abbrev oV : Memref sig .scVector .hbm S4096 .f32 := Memref.whole main_v5_scv
/-- The tile's packed words. -/
abbrev pV : Memref sig .scVector .vmem S3328 .i32 := Memref.whole cc0_scratch0
/-- The tile's 26 index lists. -/
abbrev iV : Memref sig .scVector .vmem S26x1x128 .i32 := Memref.whole cc0_scratch1
/-- The tile's 26 lists of fetched table entries. -/
abbrev rV : Memref sig .scVector .vmem S26x1x128 .f32 := Memref.whole cc0_scratch2
/-- The tile's sums. -/
abbrev aV : Memref sig .scVector .vmem S128 .f32 := Memref.whole cc0_scratch3

abbrev cV (L : grid0.Coords) : Fin τ.nSC := (L 0).castLE hcore0
abbrev jV (L : grid0.Coords) : Fin τ.nSub := (L 1).castLE hsub0
/-- The thread of the tile at grid point `L`. -/
abbrev tile (d : Dev nD) (L : grid0.Coords) : Thread nD τ := V d (cV L) (jV L)

end Cert.Proof.Run

end
-- ==== Proof.Streams.lean ====
/-
  The 26 gathers of a tile, on one semaphore. The index lists and the fetched rows are 26 lists of 128 places; place
  `128 c + j` in row-major order is place `j` of list `c`. A gather moves one place at a time, so all 26 of them are
  one batch of 3328 transfers, and gather `c` is its transfers from `128 c` on.
-/
module

public import proofs.«01_k».proof.Proof.Issue
public import proofs.«01_k».proof.Proof.Setup

@[expose] public section

noncomputable section

namespace Cert.Proof.Run

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (SparseCore.Cfg.HIx 1) (Elt F) ℕ UU ℕ

/-! ## Places -/

theorem numel_lists : S26x1x128.numel = 3328 := by decide

/-- Place `t` of the 26 lists, in row-major order. -/
def cell (t : Fin 3328) : S26x1x128.Idx := S26x1x128.rowMajor.symm (t.cast numel_lists.symm)

theorem rowMajor_cell (t : Fin 3328) : (S26x1x128.rowMajor (cell t)).val = t.val := by
  unfold cell; rw [Equiv.apply_symm_apply]; rfl

theorem eq_cell {z : S26x1x128.Idx} {t : Fin 3328} (h : (S26x1x128.rowMajor z).val = t.val) : z = cell t :=
  S26x1x128.rowMajor.injective (Fin.ext (h.trans (rowMajor_cell t).symm))

/-- Place `l` of list `f`. -/
def at3 (f : Fin 26) (l : Fin 128) : S26x1x128.Idx := fun | 0 => f | 1 => (0 : Fin 1) | 2 => l

/-- Entry `n` of the table. -/
def entry (n : ℕ) : S1x1040000.Idx := fun | 0 => (0 : Fin 1) | 1 => (⟨n % 1040000, Nat.mod_lt _ (by decide)⟩ : Fin 1040000)

/-- A strip's element `x` is place `128 c + x` of the lists. -/
theorem strip_emb (c : ℕ) (h : ∀ a, (![c, 0, 0] : Fin 3 → ℕ) a + S1x1x128.size a ≤ S26x1x128.size a) (hn : S128.numel = S1x1x128.numel)
    (x : S128.Idx) (t : Fin 3328) (ht : t.val = 128 * c + (x 0).val) :
    (Rect.unit (s := S26x1x128) ![c, 0, 0] S1x1x128.size h).emb (Shape.reshapeEquiv hn x) = cell t := by
  set y := Shape.reshapeEquiv hn x with hy
  have e : (S1x1x128.rowMajor y).val = (S128.rowMajor x).val := Shape.rowMajor_reshapeEquiv hn x
  rw [Shape.rowMajor_val_three, Shape.rowMajor_val_one] at e
  apply eq_cell
  rw [Shape.rowMajor_val_three, ht]
  have h0 : (y 0).val < 1 := (y 0).isLt
  have h1 : (y 1).val < 1 := (y 1).isLt
  change ((c + 1 * (y 0).val) * 1 + (0 + 1 * (y 1).val)) * 128 + (0 + 1 * (y 2).val) = _
  change ((y 0).val * 1 + (y 1).val) * 128 + (y 2).val = (x 0).val at e
  omega

/-- An index of the whole table, as the gathers address it, is the entry of its number. -/
theorem table_emb (x : S1040000.Idx) :
    (Rect.unit (s := S1x1040000) ![0, 0] S1x1040000.size inb_S1x1040000_S1x1040000_0_0).emb
        (Shape.reshapeEquiv squeezes_S1x1040000_S1040000.numel_eq ((Rect.unit (s := S1040000) ![0] S1040000.size inb_S1040000_S1040000_0).emb x))
      = entry (x 0).val := by
  set z := (Rect.unit (s := S1040000) ![0] S1040000.size inb_S1040000_S1040000_0).emb x with hz
  set y := Shape.reshapeEquiv squeezes_S1x1040000_S1040000.numel_eq z with hy
  have e : (S1x1040000.rowMajor y).val = (S1040000.rowMajor z).val := Shape.rowMajor_reshapeEquiv _ z
  rw [Shape.rowMajor_val_two, Shape.rowMajor_val_one] at e
  have h0 : (y 0).val < 1 := (y 0).isLt
  have hx : (x 0).val < 1040000 := (x 0).isLt
  have hzx : (z 0).val = 0 + 1 * (x 0).val := by rw [hz]; rfl
  change (y 0).val * 1040000 + (y 1).val = (z 0).val at e
  funext a
  match a with
  | 0 => exact Fin.ext (by change 0 + 1 * (y 0).val = 0; omega)
  | 1 => exact Fin.ext (by change 0 + 1 * (y 1).val = (x 0).val % 1040000; rw [Nat.mod_eq_of_lt hx]; omega)

/-! ## One gather's memrefs -/

variable (d : Dev nD) (L : grid0.Coords)

/-- List `c` of the fetched rows, of the index lists. -/
abbrev rowsOf (c : ℕ) (h : ∀ a, (![c, 0, 0] : Fin 3 → ℕ) a + S1x1x128.size a ≤ S26x1x128.size a) : Memref sig .scVector .vmem S128 .f32 :=
  (rV.slice (Rect.unit (s := S26x1x128) ![c, 0, 0] S1x1x128.size h) (fun _ => rfl)).squeeze S128 squeezes_S1x1x128_S128
abbrev listOf (c : ℕ) (h : ∀ a, (![c, 0, 0] : Fin 3 → ℕ) a + S1x1x128.size a ≤ S26x1x128.size a) : Memref sig .scVector .vmem S128 .i32 :=
  (iV.slice (Rect.unit (s := S26x1x128) ![c, 0, 0] S1x1x128.size h) (fun _ => rfl)).squeeze S128 squeezes_S1x1x128_S128
/-- The whole table, flat. -/
abbrev wAll : Memref sig .scVector .hbm S1040000 .f32 :=
  ((wV.slice (Rect.unit (s := S1x1040000) ![0, 0] S1x1040000.size inb_S1x1040000_S1x1040000_0_0) (fun _ => rfl)).squeeze S1040000
    squeezes_S1x1040000_S1040000).slice (Rect.unit (s := S1040000) ![0] S1040000.size inb_S1040000_S1040000_0) (fun _ => rfl)

abbrev pLoc : Loc nD τ sig := (tile d L).loc cc0_scratch0
abbrev iLoc : Loc nD τ sig := (tile d L).loc cc0_scratch1
abbrev rLoc : Loc nD τ sig := (tile d L).loc cc0_scratch2
abbrev aLoc : Loc nD τ sig := (tile d L).loc cc0_scratch3
abbrev xcLoc : Loc nD τ sig := (SparseCore.T d).loc main_v3
abbrev wLoc : Loc nD τ sig := (SparseCore.T d).loc main_v4
abbrev oLoc : Loc nD τ sig := (SparseCore.T d).loc main_v5

variable {d L}

/-- The table entry each place of the lists names. -/
def fetched (w : Buf (Elt F) (wLoc d)) (fi : Buf (Elt F) (iLoc d L)) : Buf (Elt F) (rLoc d L) :=
  fun z => w (entry (BitVec.toNat (fi z)))

theorem wAll_emb (x : S1040000.Idx) : wAll.view.emb x = entry (x 0).val := table_emb x
theorem rowsOf_emb (c : ℕ) (h) (x : S128.Idx) (t : Fin 3328) (ht : t.val = 128 * c + (x 0).val) : (rowsOf c h).view.emb x = cell t :=
  strip_emb c h _ x t ht
theorem listOf_emb (c : ℕ) (h) (x : S128.Idx) (t : Fin 3328) (ht : t.val = 128 * c + (x 0).val) : (listOf c h).view.emb x = cell t :=
  strip_emb c h _ x t ht

theorem wAll_set : wAll.view.set = Finset.univ := by
  ext z
  simp only [View.set, Finset.mem_map, Finset.mem_univ, true_and, iff_true]
  refine ⟨fun | 0 => z 1, ?_⟩
  rw [wAll_emb]
  funext a
  match a with
  | 0 => exact Fin.ext (by have : (z 0).val < 1 := (z 0).isLt; change 0 = (z 0).val; omega)
  | 1 => exact Fin.ext (Nat.mod_eq_of_lt (z 1).isLt)

/-- A row of a list is one place. -/
theorem rowsOf_row_emb (c : ℕ) (h) (j : Fin (S128.size 0)) (t : Fin 3328) (ht : t.val = 128 * c + j.val) (x : (S128.rowShape 0).Idx) :
    ((rowsOf c h).view.slice (S128.rowRect 0 j)).emb x = cell t := by
  refine rowsOf_emb c h ((S128.rowRect 0 j).emb x) t ?_
  rw [ht, Shape.rowRect_emb_axis]

theorem rowsOf_row_set (c : ℕ) (h) (j : Fin (S128.size 0)) (t : Fin 3328) (ht : t.val = 128 * c + j.val) :
    ((rowsOf c h).view.slice (S128.rowRect 0 j)).set = {cell t} := by
  ext z
  simp only [View.set, Finset.mem_map, Finset.mem_univ, true_and, Finset.mem_singleton]
  constructor
  · rintro ⟨x, rfl⟩; exact rowsOf_row_emb c h j t ht x
  · rintro rfl
    exact ⟨fun | 0 => (0 : Fin 1), rowsOf_row_emb c h j t ht _⟩

theorem symm_rowMajor_one (j : Fin S128.numel) : ((S128.rowMajor.symm j) 0).val = j.val := by
  rw [← Shape.rowMajor_val_one (S128.rowMajor.symm j)]
  exact congrArg Fin.val (Equiv.apply_symm_apply _ _)

/-! ## One gather -/

/-- What one place's transfer credits the semaphore by. -/
def credit : ℕ := (rV.slice (Rect.unit (s := S26x1x128) ![0, 0, 0] ![1, 1, 1] (by decide)) (fun _ => rfl)).view.dmaCredit

theorem rowsOf_row_credit (c : ℕ) (h) (j : Fin (S128.size 0)) :
    ((rowsOf c h).slice (S128.rowRect 0 j) (S128.stride_rowRect 0 j)).view.dmaCredit = credit := by
  unfold credit; rfl
theorem rowsOf_credit (c : ℕ) (h) : (rowsOf c h).view.dmaCredit = 128 * credit := by
  unfold credit; rfl
theorem credit_pos : 0 < credit := by decide
attribute [irreducible] credit
theorem credit_succ (c : ℕ) : (c + 1) * (128 * credit) = c * (128 * credit) + 128 * credit := Nat.succ_mul _ _
theorem credit_le (c : ℕ) (hc : c < 26) : c * (128 * credit) + 128 * credit ≤ credit * 3328 := by
  rw [← credit_succ, show credit * 3328 = 26 * (128 * credit) by omega]
  exact Nat.mul_le_mul_right _ (by omega)
theorem credit_all : 25 * (128 * credit) + 128 * credit = credit * 3328 := by omega

/-- What transfer `t` works on: its place of the rows, its place of the lists, a share of the table; -/
abbrev Todo (q : PosShare TreeShare) (w : Buf (Elt F) (wLoc d)) (fi : Buf (Elt F) (iLoc d L)) (fr : Buf (Elt F) (rLoc d L)) (t : Fin 3328) : sProp 𝕄 :=
  iprop(((rLoc d L ↦[{cell t}]{fullShare} fr) ∗ (iLoc d L ↦[{cell t}]{fullShare} fi)) ∗ (wLoc d ↦{pieceOf q 3328 (by decide) t} w))

/-- The gathers' resources before gather `c` is issued: what its transfers and the later ones work on, the batch. -/
abbrev Issued (q : PosShare TreeShare) (w : Buf (Elt F) (wLoc d)) (fi : Buf (Elt F) (iLoc d L)) (fr : Buf (Elt F) (rLoc d L)) (c : ℕ) : sProp 𝕄 :=
  iprop(bigSep (Transfers.pending (128 * c)) (Todo q w fi fr)
    ∗ Transfers.Batch countersEmb (tile d L) (.dma cc0_scratch4.sem) (default : SparseCore.Cfg.HIx 1) credit (Todo q w fi (fetched w fi)) (128 * c) 0)

/-- A gather's row `j` holds the table entry its place of the list names. -/
theorem row_written (w : Buf (Elt F) (wLoc d)) (fi : Buf (Elt F) (iLoc d L)) (fr : Buf (Elt F) (rLoc d L)) (c : ℕ) (h h') {hn}
    (hin : ∀ x, BitVec.toNat ((listOf c h').view.read (Elt F) fi x) < S1040000.size gathers_S1040000_S128.axis)
    (j : Fin (S128.size 0)) (t : Fin 3328) (ht : t.val = 128 * c + j.val) :
    ∀ z ∈ ({cell t} : Finset S26x1x128.Idx), ((rowsOf c h).view.slice (S128.rowRect 0 j)).write (Elt F) fr
        (fun i => wAll.view.read (Elt F) w (gathers_S1040000_S128.rowIdx (SparseCore.rows ((listOf c h').view.read (Elt F) fi) hn hin j) i)) Finset.univ z
      = fetched w fi z := by
  intro z hz
  obtain rfl := Finset.mem_singleton.mp hz
  have hx : ((rowsOf c h).view.slice (S128.rowRect 0 j)).emb (fun | 0 => (0 : Fin 1)) = cell t := rowsOf_row_emb c h j t ht _
  rw [← hx, View.write_emb_of_mem _ _ (Finset.mem_univ _), cast_eq, View.read_apply, cast_eq, wAll_emb, hx]
  have hrow : (SparseCore.rows ((listOf c h').view.read (Elt F) fi) hn hin j).val = BitVec.toNat (fi (cell t)) := by
    change BitVec.toNat ((listOf c h').view.read (Elt F) fi (S128.rowMajor.symm (j.cast hn.symm))) = _
    rw [View.read_apply, cast_eq, listOf_emb c h' _ t (by rw [symm_rowMajor_one]; exact ht)]
  refine congrArg (fun n => w (entry n)) ?_
  rw [← hrow]
  exact congrArg Fin.val (Shape.Gathers.rowIdx_axis gathers_S1040000_S128 _ _)

variable [FloatOps F]

/-- Gather `c`, at the head of the tile's program. -/
theorem gather_step {α : Type} {Q : α → sProp 𝕄} {q : PosShare TreeShare} {w : Buf (Elt F) (wLoc d)} {fi : Buf (Elt F) (iLoc d L)}
    {fr : Buf (Elt F) (rLoc d L)} (c : ℕ) (hc : c < 26) (h h') {hp hn hsrc he hsp hr}
    {cont : PUnit → Prog (TpuEff nD τ sig (Elt F) Λ₀ (tile d L).2) α} (hfi : ∀ z, BitVec.toNat (fi z) < 1040000) :
    (Issued q w fi fr c : sProp 𝕄)
      ⊢ iprop((Issued q w fi fr (c + 1) -∗ wp frame (wpE (defs₀ (F := F)) 𝒱₀ (tile d L) none) Set.univ (cont ⟨⟩) Q)
          -∗ wp frame (wpE (defs₀ (F := F)) 𝒱₀ (tile d L) none) Set.univ
            (SparseCore.enqueueIndirectGather hp wAll (rowsOf c h) gathers_S1040000_S128 (listOf c h') hn cc0_scratch4.sem hsrc he hsp hr >>= cont) Q) := by
  have hk : 128 * c + 128 ≤ 3328 := by omega
  have hlist : ∀ x, (listOf c h').view.read (Elt F) fi x = fi ((listOf c h').view.emb x) := fun x => (View.read_apply _ _).trans (cast_eq _ _)
  have hin : ∀ x, BitVec.toNat ((listOf c h').view.read (Elt F) fi x) < S1040000.size gathers_S1040000_S128.axis := fun x => by
    rw [hlist]; exact hfi _
  have hset : ∀ j, ((rowsOf c h).view.slice (S128.rowRect gathers_S1040000_S128.axis' j)).set = {cell (Issue.next (128 * c) 128 hk j)} := fun j =>
    rowsOf_row_set c h j _ rfl
  have hent : ∀ j : Fin (S128.size gathers_S1040000_S128.axis'), (listOf c h').view.emb (S128.rowMajor.symm (j.cast hn.symm)) = cell (Issue.next (128 * c) 128 hk j) := fun j =>
    listOf_emb c h' _ _ (by rw [symm_rowMajor_one]; rfl)
  have erow : ∀ (j : Fin (S128.size gathers_S1040000_S128.axis')) (f : Buf (Elt F) (rLoc d L)),
      (rLoc d L ↦[{cell (Issue.next (128 * c) 128 hk j)}]{fullShare} f : sProp 𝕄)
        = (rowsOf c h).view.loc (tile d L) ↦[((rowsOf c h).view.slice (S128.rowRect gathers_S1040000_S128.axis' j)).set]{fullShare} f :=
    fun j f => by rw [hset j]
  have eent : ∀ j : Fin (S128.size gathers_S1040000_S128.axis'),
      (iLoc d L ↦[{cell (Issue.next (128 * c) 128 hk j)}]{fullShare} fi : sProp 𝕄)
        = (listOf c h').view.loc (tile d L) ↦[{(listOf c h').view.emb (S128.rowMajor.symm (j.cast hn.symm))}]{fullShare} fi :=
    fun j => by rw [hent j]
  have esrc : ∀ p : PosShare TreeShare, (wLoc d ↦{p} w : sProp 𝕄) = wAll.view.loc (tile d L) ↦[wAll.view.set]{p} w := fun p => by rw [wAll_set]
  unfold Issued
  iintro ⟨Hp, HB⟩ Hk
  ihave Hp' := (Entails.of_eq (Issue.bigSep_pending_next (Todo q w fi fr) (128 * c) 128 hk)) $$ Hp
  icases Hp' with ⟨Hnow, Hlater⟩
  iapply (Issue.issue countersEmb 𝒱₀ (tile d L) none (src := wAll) (dst := rowsOf c h) (hg := gathers_S1040000_S128) (offs := listOf c h') (hn := hn)
    (qk := fun j => pieceOf q 3328 (by decide) (Issue.next (128 * c) 128 hk j)) (qo := fullShare) (fs := w) (fd := fr) (fo := fi)
    (D := Todo q w fi (fetched w fi))
    (default : SparseCore.Cfg.HIx 1) credit (k := 128 * c) (u := 0) hk (Nat.zero_le _) (rowsOf_row_credit c h) hin ?_) $$ [Hnow HB]
  · intro j
    iintro ⟨⟨Hd, He⟩, Hs⟩
    isplitl [Hd He]
    · isplitl [Hd]
      · iapply (Entails.of_eq (pointsTo_congr (ℓ := rLoc d L) (q := fullShare) (row_written w fi fr c h h' hin j (Issue.next (128 * c) 128 hk j) rfl)))
        iapply (Entails.of_eq (erow j _).symm); iexact Hd
      · iapply (Entails.of_eq (eent j).symm); iexact He
    · iapply (Entails.of_eq (esrc _).symm); iexact Hs
  · isplitl [Hnow]
    · iapply (show bigSep Finset.univ (fun j => Todo q w fi fr (Issue.next (128 * c) 128 hk j)) ⊢ _ from bigSep_mono fun j _ => ?_) $$ Hnow
      change Todo q w fi fr (Issue.next (128 * c) 128 hk j) ⊢ _
      iintro ⟨⟨Hd, He⟩, Hs⟩
      isplitl [Hd He]
      · isplitl [Hd]
        · iapply (Entails.of_eq (erow j _)); iexact Hd
        · iapply (Entails.of_eq (eent j)); iexact He
      · iapply (Entails.of_eq (esrc _)); iexact Hs
    · iexact HB
  · iintro HB
    iapply Hk
    isplitl [Hlater]; · iexact Hlater
    iexact HB

/-! ## The waits -/

/-- The tile has waited `c` of the 26 gathers. -/
abbrev Waited (q : PosShare TreeShare) (w : Buf (Elt F) (wLoc d)) (fi : Buf (Elt F) (iLoc d L)) (c : ℕ) : sProp 𝕄 :=
  Transfers.Batch countersEmb (tile d L) (.dma cc0_scratch4.sem) (default : SparseCore.Cfg.HIx 1) credit (Todo q w fi (fetched w fi)) 3328 (c * (128 * credit))

/-- What the waits owe and may do. -/
abbrev Owing (d : Dev nD) (L : grid0.Coords) (O : CellTallies nD τ sig (SparseCore.Cfg.HIx 1)) (W : Waits sig (SparseCore.Cfg.HIx 1)) : sProp 𝕄 :=
  iprop(∃ W', ⌜∀ p ∈ W', p ∈ W ∨ p.2 = none⌝ ∗ owes (tile d L) O W')

/-- A wait but the last: nothing is handed back yet. -/
theorem wait_step {α : Type} {Q : α → sProp 𝕄} {q : PosShare TreeShare} {w : Buf (Elt F) (wLoc d)} {fi : Buf (Elt F) (iLoc d L)}
    {O : CellTallies nD τ sig (SparseCore.Cfg.HIx 1)} {W : Waits sig (SparseCore.Cfg.HIx 1)}
    (c : ℕ) (hc : c < 25) (h) {hsrc hdst} {cont : PUnit → Prog (TpuEff nD τ sig (Elt F) Λ₀ (tile d L).2) α} (hO : ∀ g, O g none = 0) :
    (iprop(levAts (K (F := F)).L (K (F := F)).lev ∗ Waited q w fi c ∗ Owing d L O W) : sProp 𝕄)
      ⊢ iprop((iprop(Waited q w fi (c + 1) ∗ Owing d L O W) -∗ wp frame (wpE (defs₀ (F := F)) 𝒱₀ (tile d L) none) Set.univ (cont ⟨⟩) Q)
          -∗ wp frame (wpE (defs₀ (F := F)) 𝒱₀ (tile d L) none) Set.univ
            (SparseCore.waitIndirectGather cc0_scratch4.sem wAll (rowsOf c h) hsrc hdst >>= cont) Q) := by
  change _ ⊢ iprop(_ -∗ wp frame (wpE (defs₀ (F := F)) 𝒱₀ (tile d L) none) Set.univ (.op (.waitDma2 cc0_scratch4.sem wAll (rowsOf c h) hsrc hdst) cont) Q)
  iintro ⟨#Hlv, HB, %W', %hW', HO⟩ Hk
  iapply (Transfers.wp_waitBatchMulO countersEmb 𝒱₀ (tile d L) none (default : SparseCore.Cfg.HIx 1) 128 (rowsOf_credit c h) (credit_le c (by omega))) $$ [HB HO]
  · isplitl [HB]; · iexact HB
    isplitl [HO]; · iexact HO
    iapply ((K (F := F)).mayWait_none (SemLoc.dma cc0_scratch4.sem) hO); iexact Hlv
  iintro ⟨HB, HO⟩
  iapply Hk
  unfold Waited; rw [credit_succ]
  isplitl [HB]; · iexact HB
  iexists _; isplitr
  swap; · iexact HO
  ipureintro; intro p hp
  rcases Finset.mem_insert.mp hp with hp | hp
  · exact .inr (hp ▸ rfl)
  · exact hW' p hp

/-- The last wait: every place fetched, the lists and the share of the table back, the semaphore at zero. -/
theorem wait_last {α : Type} {Q : α → sProp 𝕄} {q : PosShare TreeShare} {w : Buf (Elt F) (wLoc d)} {fi : Buf (Elt F) (iLoc d L)}
    {O : CellTallies nD τ sig (SparseCore.Cfg.HIx 1)} {W : Waits sig (SparseCore.Cfg.HIx 1)}
    (h) {hsrc hdst} {cont : PUnit → Prog (TpuEff nD τ sig (Elt F) Λ₀ (tile d L).2) α} (hO : ∀ g, O g none = 0) :
    (iprop(levAts (K (F := F)).L (K (F := F)).lev ∗ Waited q w fi 25 ∗ Owing d L O W) : sProp 𝕄)
      ⊢ iprop((iprop(bigSep Finset.univ (Todo q w fi (fetched w fi)) ∗ semVal (tile d L, .dma cc0_scratch4.sem) 0 ∗ Owing d L O W)
            -∗ wp frame (wpE (defs₀ (F := F)) 𝒱₀ (tile d L) none) Set.univ (cont ⟨⟩) Q)
          -∗ wp frame (wpE (defs₀ (F := F)) 𝒱₀ (tile d L) none) Set.univ
            (SparseCore.waitIndirectGather cc0_scratch4.sem wAll (rowsOf 25 h) hsrc hdst >>= cont) Q) := by
  change _ ⊢ iprop(_ -∗ wp frame (wpE (defs₀ (F := F)) 𝒱₀ (tile d L) none) Set.univ (.op (.waitDma2 cc0_scratch4.sem wAll (rowsOf 25 h) hsrc hdst) cont) Q)
  iintro ⟨#Hlv, HB, %W', %hW', HO⟩ Hk
  iapply (Transfers.wp_waitBatchAllO countersEmb 𝒱₀ (tile d L) none (default : SparseCore.Cfg.HIx 1) (rowsOf_credit 25 h) credit_pos credit_all) $$ [HB HO]
  · isplitl [HB]; · iexact HB
    isplitl [HO]; · iexact HO
    iapply ((K (F := F)).mayWait_none (SemLoc.dma cc0_scratch4.sem) hO); iexact Hlv
  iintro ⟨HD, Hv, HO⟩
  iapply Hk
  isplitl [HD]; · iexact HD
  isplitl [Hv]; · iexact Hv
  iexists _; isplitr
  swap; · iexact HO
  ipureintro; intro p hp
  rcases Finset.mem_insert.mp hp with hp | hp
  · exact .inr (hp ▸ rfl)
  · exact hW' p hp

/-! ## The places split and join -/

omit [FloatOps F] in
theorem cell_injective : Function.Injective cell := fun t t' e => Fin.ext (by rw [← rowMajor_cell t, ← rowMajor_cell t', e])

omit [FloatOps F] in
theorem cells_disjoint : ∀ t ∈ (Finset.univ : Finset (Fin 3328)), ∀ t' ∈ (Finset.univ : Finset (Fin 3328)), t ≠ t' →
    Disjoint ({cell t} : Finset S26x1x128.Idx) {cell t'} :=
  fun _ _ _ _ h => Finset.disjoint_singleton.mpr fun e => h (cell_injective e)

omit [FloatOps F] in
theorem cells_cover : (Finset.univ : Finset (Fin 3328)).biUnion (fun t => ({cell t} : Finset S26x1x128.Idx)) = Finset.univ := by
  ext z
  simp only [Finset.mem_biUnion, Finset.mem_univ, true_and, Finset.mem_singleton, iff_true]
  exact ⟨(S26x1x128.rowMajor z).cast numel_lists, eq_cell rfl⟩

omit [FloatOps F] in
theorem rows_cells (f : Buf (Elt F) (rLoc d L)) :
    (rLoc d L ↦{fullShare} f : sProp 𝕄) = bigSep Finset.univ fun t => rLoc d L ↦[{cell t}]{fullShare} f := by
  rw [← pointsTo_biUnion Finset.univ (ℓ := rLoc d L) (fun t => ({cell t} : Finset S26x1x128.Idx)) cells_disjoint, cells_cover]

omit [FloatOps F] in
theorem lists_cells (f : Buf (Elt F) (iLoc d L)) :
    (iLoc d L ↦{fullShare} f : sProp 𝕄) = bigSep Finset.univ fun t => iLoc d L ↦[{cell t}]{fullShare} f := by
  rw [← pointsTo_biUnion Finset.univ (ℓ := iLoc d L) (fun t => ({cell t} : Finset S26x1x128.Idx)) cells_disjoint, cells_cover]

omit [FloatOps F] in
/-- All the gathers work on: the rows, the lists, the share of the table. -/
theorem todo_all (q : PosShare TreeShare) (w : Buf (Elt F) (wLoc d)) (fi : Buf (Elt F) (iLoc d L)) (fr : Buf (Elt F) (rLoc d L)) :
    (bigSep Finset.univ (Todo q w fi fr) : sProp 𝕄)
      = iprop(((rLoc d L ↦{fullShare} fr) ∗ (iLoc d L ↦{fullShare} fi)) ∗ (wLoc d ↦{q} w)) := by
  unfold Todo
  rw [bigSep_sep', bigSep_sep', ← rows_cells, ← lists_cells, ← pointsTo_piecesOf Finset.univ w (by decide : 0 < 3328) q]

omit [FloatOps F] in
/-- Before the first gather: the batch is opened on the semaphore at zero. -/
theorem issued_zero (q : PosShare TreeShare) (w : Buf (Elt F) (wLoc d)) (fi : Buf (Elt F) (iLoc d L)) (fr : Buf (Elt F) (rLoc d L)) :
    (iprop((((rLoc d L ↦{fullShare} fr) ∗ (iLoc d L ↦{fullShare} fi)) ∗ (wLoc d ↦{q} w)) ∗ semVal (tile d L, .dma cc0_scratch4.sem) 0) : sProp 𝕄)
      ⊢ |={Set.univ}=> Issued q w fi fr 0 := by
  have : ∀ t, Storable (upEmb : UEmb _ 𝕄) (Todo q w fi (fetched w fi) t) := fun t => inferInstance
  rw [← todo_all]
  iintro ⟨HT, Hv⟩
  imod (Transfers.batch_alloc' countersEmb (tile d L) (default : SparseCore.Cfg.HIx 1) credit (Todo q w fi (fetched w fi))
    (sm := .dma cc0_scratch4.sem) (E := Set.univ)) $$ Hv with HB
  imodintro
  unfold Issued; rw [Nat.mul_zero]
  isplitl [HT]
  · iapply (Entails.of_eq (Transfers.bigSep_pending_zero (Todo q w fi fr))); iexact HT
  · iexact HB

omit [FloatOps F] in
/-- Every gather issued: the batch alone is left. -/
theorem issued_all (q : PosShare TreeShare) (w : Buf (Elt F) (wLoc d)) (fi : Buf (Elt F) (iLoc d L)) (fr : Buf (Elt F) (rLoc d L)) :
    (Issued q w fi fr 26 : sProp 𝕄) ⊢ Waited q w fi 0 := by
  unfold Issued Waited; rw [Nat.zero_mul, show 128 * 26 = 3328 from rfl]
  iintro ⟨-, HB⟩
  iexact HB

end Cert.Proof.Run

end
-- ==== Proof.Lists.lean ====
/-
  The index lists of a tile. Trip `k` of the first loop takes samples `16 k … 16 k + 15` of the tile, field by field:
  it picks the samples' packed words of field `n` out of the tile's words, makes table indices of them and puts these
  into places `16 k …` of list `n`. `field_step` is the rule for one field.
-/
module

public import proofs.«01_k».proof.Proof.Streams

@[expose] public section

noncomputable section

namespace Cert.Proof.Run

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (SparseCore.Cfg.HIx 1) (Elt F) ℕ UU ℕ

/-! ## Words -/

/-- The table index a packed word stands for: its high part, and 40000 times its low five bits. -/
def index (v : BitVec 32) : BitVec 32 := (v >>> 5#32) + (v &&& 31#32) * 40000#32

/-- The indices of sixteen packed words. -/
abbrev indices (v : IVec S16 32) : IVec S16 32 :=
  addi (shrui v (broadcast S16 5#32)) (muli (andi v (broadcast S16 31#32)) (broadcast S16 40000#32))

theorem indices_apply (v : IVec S16 32) (x : S16.Idx) : indices v x = index (v x) := by
  change (IntOp.shrui .vector (v x) 5#32) + (v x &&& 31#32) * 40000#32 = _
  rw [IntOp.shrui, if_pos (by decide)]; rfl

/-- Where field `n` of the sixteen samples of trip `k` stand in the tile's words. -/
abbrev places (k : Fin k0_t1_loop.trips) (n : BitVec 32) : IVec S16 32 := addi (k0_pay2 0#32 1#32 k) (broadcast S16 n)

/-- Place `m` of the tile's words. -/
def word (m : ℕ) : S3328.Idx := fun | 0 => (⟨m % 3328, Nat.mod_lt _ (by decide)⟩ : Fin 3328)

theorem trips_lt (k : Fin k0_t1_loop.trips) : k.val < 8 := k.isLt

theorem places_val (k : Fin k0_t1_loop.trips) (n : ℕ) (hn : n < 26) (x : S16.Idx) :
    BitVec.toNat (places k (BitVec.ofNat 32 n) x) = 26 * (16 * k.val + (x 0).val) + n := by
  have hk := trips_lt k
  have hx : (x 0).val < 16 := (x 0).isLt
  change BitVec.toNat (((BitVec.ofNat 32 (0 * 16 + (x 0).val)) + ((0#32 + BitVec.ofNat 32 k.val * 1#32) * 16#32)) * 26#32 + BitVec.ofNat 32 n) = _
  simp only [BitVec.toNat_add, BitVec.toNat_mul, BitVec.toNat_ofNat]
  omega

/-- The tile's index lists, out of its words: place `l` of list `f` is the index of word `26 l + f`. -/
def lists (fp : S3328.Idx → BitVec 32) : S26x1x128.Idx → BitVec 32 := fun z => index (fp (word (26 * (z 2).val + (z 0).val)))

/-- Trip `k` has done the fields below `n`, and the trips before it every field. -/
def Done (fp : S3328.Idx → BitVec 32) (k n : ℕ) (f : S26x1x128.Idx → BitVec 32) : Prop :=
  ∀ z : S26x1x128.Idx, ((z 2).val / 16 < k ∨ ((z 2).val / 16 = k ∧ (z 0).val < n)) → f z = lists fp z

theorem done_zero (fp : S3328.Idx → BitVec 32) (f : S26x1x128.Idx → BitVec 32) : Done fp 0 0 f := fun z h => by omega

theorem done_trip {fp : S3328.Idx → BitVec 32} {k : ℕ} {f : S26x1x128.Idx → BitVec 32} (h : Done fp k 26 f) : Done fp (k + 1) 0 f := fun z hz => by
  have h0 : (z 0).val < 26 := (z 0).isLt
  exact h z (by omega)

theorem done_all {fp : S3328.Idx → BitVec 32} {f : S26x1x128.Idx → BitVec 32} (h : Done fp 8 0 f) : f = lists fp := funext fun z => by
  have h2 : (z 2).val < 128 := (z 2).isLt
  exact h z (by omega)

variable {d : Dev nD} {L : grid0.Coords}

/-- A store of the indices of trip `k`, field `n`. -/
theorem done_store {fp : S3328.Idx → BitVec 32} {k n : ℕ} (hk : k < 8) (hn : n < 26) {f : S26x1x128.Idx → BitVec 32} (h : Done fp k n f)
    {off : Fin 3 → ℕ} (hoff : off = ![n, 0, 16 * k]) (inb : ∀ a, off a + S1x1x16.size a ≤ S26x1x128.size a)
    (p : IVec S16 32) (hp : ∀ x : S16.Idx, p x = index (fp (word (26 * (16 * k + (x 0).val) + n)))) :
    Done fp k (n + 1) ((iV.access (Rect.unit (s := S26x1x128) off S1x1x16.size inb)).write (Elt F) f
      (shapeCast S1x1x16 p shapeCasts_S16_S1x1x16) Finset.univ) := by
  subst hoff
  intro z hz
  by_cases hnow : (z 2).val / 16 = k ∧ (z 0).val = n
  · obtain ⟨h2, h0⟩ := hnow
    have hl : (z 2).val - 16 * k < 16 := by omega
    let y : S1x1x16.Idx := fun | 0 => (0 : Fin 1) | 1 => (0 : Fin 1) | 2 => (⟨(z 2).val - 16 * k, hl⟩ : Fin 16)
    let x : S16.Idx := fun | 0 => (⟨(z 2).val - 16 * k, hl⟩ : Fin 16)
    have hy : (iV.access (Rect.unit (s := S26x1x128) ![n, 0, 16 * k] S1x1x16.size inb)).emb y = z := by
      funext a
      match a with
      | 0 => exact Fin.ext (by change n + 1 * 0 = (z 0).val; omega)
      | 1 => exact Fin.ext (by have : (z 1).val < 1 := (z 1).isLt; change 0 + 1 * 0 = (z 1).val; omega)
      | 2 => exact Fin.ext (by change 16 * k + 1 * ((z 2).val - 16 * k) = (z 2).val; omega)
    have hx : Shape.reshapeEquiv shapeCasts_S16_S1x1x16 y = x := Shape.reshapeEquiv_eq_of_rowMajor _ (by
      rw [Shape.rowMajor_val_three, Shape.rowMajor_val_one]
      change (z 2).val - 16 * k = (0 * 1 + 0) * 16 + ((z 2).val - 16 * k)
      omega)
    rw [← hy, View.write_emb_of_mem _ _ (Finset.mem_univ _), cast_eq]
    change p (Shape.reshapeEquiv shapeCasts_S16_S1x1x16 y) = _
    rw [hx, hp, hy]
    change index (fp (word (26 * (16 * k + ((z 2).val - 16 * k)) + n))) = index (fp (word (26 * (z 2).val + (z 0).val)))
    rw [h0, show 16 * k + ((z 2).val - 16 * k) = (z 2).val by omega]
  · refine (View.write_of_not_mem _ _ _ fun hm => hnow ?_).trans (h z (by omega))
    obtain ⟨y, -, rfl⟩ := Finset.mem_map.mp hm
    have h0 : (y 0).val < 1 := (y 0).isLt
    have h2 : (y 2).val < 16 := (y 2).isLt
    change (16 * k + 1 * (y 2).val) / 16 = k ∧ n + 1 * (y 0).val = n
    omega

/-! ## One field -/

/-- The tile's words and its lists, before field `n` of trip `k`. -/
abbrev Fields (fp : Buf (Elt F) (pLoc d L)) (k n : ℕ) : sProp 𝕄 :=
  iprop((pLoc d L ↦{fullShare} fp) ∗ ∃ f : Buf (Elt F) (iLoc d L), ⌜Done fp k n f⌝ ∗ (iLoc d L ↦{fullShare} f))

variable [FloatOps F]

/-- One field of a trip. -/
theorem field_step {α : Type} {Q : α → sProp 𝕄} {fp : Buf (Elt F) (pLoc d L)} (k : Fin k0_t1_loop.trips) (n : ℕ) (hn : n < 26)
    {v : IVec S16 32} {chk : Prop} {dec : Decidable chk} {inb : PLift chk → ∀ a x, ((![v] : Fin 1 → IVec S16 32) a x).toNat < S3328.size a} {hl}
    {off : Fin 3 → ℕ} {inb' : ∀ a, off a + S1x1x16.size a ≤ S26x1x128.size a} {hl' hs hm} {p : Vec F S16 .i32 → IVec S16 32}
    {cont : PUnit → Prog (TpuEff nD τ sig (Elt F) Λ₀ (tile d L).2) α}
    (hv : v = places k (BitVec.ofNat 32 n)) (hchk : (∀ a x, ((![v] : Fin 1 → IVec S16 32) a x).toNat < S3328.size a) → chk)
    (hoff : off = ![n, 0, 16 * k.val]) (hp : ∀ x, p x = indices x) :
    (Fields fp k.val n : sProp 𝕄)
      ⊢ iprop((Fields fp k.val (n + 1) -∗ wp frame (wpE (defs₀ (F := F)) 𝒱₀ (tile d L) none) Set.univ (cont ⟨⟩) Q)
          -∗ wp frame (wpE (defs₀ (F := F)) 𝒱₀ (tile d L) none) Set.univ
            (.op (.assume chk dec) fun a => SparseCore.vectorLoadIdx pV ![v] (inb a) hl >>= fun x : Vec F S16 .i32 =>
              .op (.load iV (Rect.unit (s := S26x1x128) off S1x1x16.size inb').toLoadRect hl') fun _ =>
              .op (.store iV (Rect.unit (s := S26x1x128) off S1x1x16.size inb') (shapeCast S1x1x16 (p x) shapeCasts_S16_S1x1x16) Finset.univ hs hm) cont) Q) := by
  have hk := trips_lt k
  have hin : ∀ a x, ((![v] : Fin 1 → IVec S16 32) a x).toNat < S3328.size a := fun a x => by
    obtain rfl := Fin.eq_zero a
    subst hv
    change BitVec.toNat (places k (BitVec.ofNat 32 n) x) < 3328
    rw [places_val k n hn]
    have : (x 0).val < 16 := (x 0).isLt
    omega
  iintro ⟨Hp, %f, %hf, Hi⟩ Hk
  rw [wp_assume_of _ _ _ _ (hchk hin)]
  iapply (SparseCore.wp_vectorLoadIdx 𝒱₀ (tile d L) none Set.univ (base := pV) (S := Finset.univ) (q := fullShare) (f := fp) (Finset.subset_univ _)) $$ Hp
  iintro Hp
  iapply (wp_load 𝒱₀ (tile d L) none Set.univ (m := iV) (S := Finset.univ) (q := fullShare) (f := f) (Finset.subset_univ _)) $$ Hi
  iintro Hi
  iapply (wp_store 𝒱₀ (tile d L) none Set.univ (m := iV) (r := Rect.unit (s := S26x1x128) off S1x1x16.size inb') (S := Finset.univ) (f := f) (Finset.subset_univ _)) $$ Hi
  iintro Hi
  iapply Hk
  isplitl [Hp]; · iexact Hp
  iexists _; isplitr
  swap; · iexact Hi
  ipureintro
  refine done_store hk hn hf hoff inb' _ fun x => ?_
  rw [hp, indices_apply]
  refine congrArg index (congrArg fp (funext fun a => ?_))
  obtain rfl := Fin.eq_zero a
  subst hv
  refine Fin.ext ?_
  change 0 + 1 * BitVec.toNat (places k (BitVec.ofNat 32 n) x) = (26 * (16 * k.val + (x 0).val) + n) % 3328
  have : (x 0).val < 16 := (x 0).isLt
  rw [places_val k n hn, Nat.mod_eq_of_lt (by omega), Nat.zero_add, Nat.one_mul]

/-- `field_step`, with what follows given as a proof. -/
theorem field_then {α : Type} {Q : α → sProp 𝕄} {fp : Buf (Elt F) (pLoc d L)} (k : Fin k0_t1_loop.trips) (n : ℕ) (hn : n < 26)
    {v : IVec S16 32} {chk : Prop} {dec : Decidable chk} {inb : PLift chk → ∀ a x, ((![v] : Fin 1 → IVec S16 32) a x).toNat < S3328.size a} {hl}
    {off : Fin 3 → ℕ} {inb' : ∀ a, off a + S1x1x16.size a ≤ S26x1x128.size a} {hl' hs hm} {p : Vec F S16 .i32 → IVec S16 32}
    {cont : PUnit → Prog (TpuEff nD τ sig (Elt F) Λ₀ (tile d L).2) α}
    (hv : v = places k (BitVec.ofNat 32 n)) (hchk : (∀ a x, ((![v] : Fin 1 → IVec S16 32) a x).toNat < S3328.size a) → chk)
    (hoff : off = ![n, 0, 16 * k.val]) (hp : ∀ x, p x = indices x)
    (h : (Fields fp k.val (n + 1) : sProp 𝕄) ⊢ wp frame (wpE (defs₀ (F := F)) 𝒱₀ (tile d L) none) Set.univ (cont ⟨⟩) Q) :
    (Fields fp k.val n : sProp 𝕄) ⊢ wp frame (wpE (defs₀ (F := F)) 𝒱₀ (tile d L) none) Set.univ
      (.op (.assume chk dec) fun a => SparseCore.vectorLoadIdx pV ![v] (inb a) hl >>= fun x : Vec F S16 .i32 =>
        .op (.load iV (Rect.unit (s := S26x1x128) off S1x1x16.size inb').toLoadRect hl') fun _ =>
        .op (.store iV (Rect.unit (s := S26x1x128) off S1x1x16.size inb') (shapeCast S1x1x16 (p x) shapeCasts_S16_S1x1x16) Finset.univ hs hm) cont) Q := by
  iintro H
  iapply (field_step k n hn hv hchk hoff hp) $$ H
  iintro H
  iapply h $$ H

set_option maxHeartbeats 4000000 in
set_option maxRecDepth 65536 in
/-- A trip of the first loop. -/
theorem lists_trip {fp : Buf (Elt F) (pLoc d L)} (k : Fin k0_t1_loop.trips) :
    (Fields fp k.val 0 : sProp 𝕄) ⊢ wp frame (wpE (defs₀ (F := F)) 𝒱₀ (tile d L) none) Set.univ
      (k0_t1_body (F := F) L xcV (Memref.isWhole_whole _) wV (Memref.isWhole_whole _) oV (Memref.isWhole_whole _)
        pV (Memref.isWhole_whole _) iV (Memref.isWhole_whole _) rV (Memref.isWhole_whole _) aV (Memref.isWhole_whole _)
        cc0_scratch4 cc0_scoped0 cc0_scoped1 k ⟨⟩) fun _ => Fields fp (k.val + 1) 0 := by
  unfold k0_t1_body
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel
    k0_part9_skel k0_part10_skel
  simp only [Prog.lift, Prog.bind_op, Prog.bind_ret, Prog.pure_eq_ret, bind_assoc]
  iterate 26
    refine field_then k _ (by decide) rfl (fun h => h) ?_ (fun _ => rfl) ?_
    · simp only [k0_off2_eq, k0_off3_eq, k0_off4_eq, k0_off5_eq, k0_off6_eq, k0_off7_eq, k0_off8_eq, k0_off9_eq, k0_off10_eq,
        k0_off11_eq, k0_off12_eq, k0_off13_eq, k0_off14_eq, k0_off15_eq, k0_off16_eq, k0_off17_eq, k0_off18_eq, k0_off19_eq,
        k0_off20_eq, k0_off21_eq, k0_off22_eq, k0_off23_eq, k0_off24_eq, k0_off25_eq, k0_off26_eq, k0_off27_eq]
  iintro ⟨Hp, %f, %hf, Hi⟩
  rw [wp_ret]
  imodintro
  iframe Hp
  iexists f
  iframe Hi
  ipureintro
  exact done_trip hf

end Cert.Proof.Run

end
-- ==== Proof.Sums.lean ====
/-
  The sums of a tile. Trip `k` of the second loop takes samples `16 k … 16 k + 15` of the tile: it reads their entry of
  each of the 26 lists, adds the entries from the first to the last, and puts the sums into places `16 k …` of the
  tile's results.
-/
module

public import proofs.«01_k».proof.Proof.Lists

@[expose] public section

noncomputable section

namespace Cert.Proof.Run

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (SparseCore.Cfg.HIx 1) (Elt F) ℕ UU ℕ

/-- The first `n + 1` of a sequence of values, added from the first on. -/
def upto (e : ℕ → F .f32) : ℕ → F .f32
  | 0 => e 0
  | n + 1 => FloatOps.addf (upto e n) (e (n + 1))

/-- Entry `l` of list `n`. -/
def nth (g : S26x1x128.Idx → F .f32) (l : Fin 128) (n : ℕ) : F .f32 := g (at3 (Fin.ofNat 26 n) l)

/-- The sum of entry `l` of every list. -/
def total (g : S26x1x128.Idx → F .f32) (l : Fin 128) : F .f32 := upto (nth g l) 25

/-- Entries `16 k …` of list `n`, in a row. -/
def row (g : S26x1x128.Idx → F .f32) (k n : ℕ) : Vec F S1x1x16 .f32 := fun y => nth g (Fin.ofNat 128 (16 * k + (y 2).val)) n

/-- The first `n + 1` rows added. -/
def rows (g : S26x1x128.Idx → F .f32) (k : ℕ) : ℕ → FVec F S16 .f32
  | 0 => shapeCast S16 (row g k 0) shapeCasts_S1x1x16_S16
  | n + 1 => addf (rows g k n) (shapeCast S16 (row g k (n + 1)) shapeCasts_S1x1x16_S16)

theorem row_cast (g : S26x1x128.Idx → F .f32) (k n : ℕ) (x : S16.Idx) :
    shapeCast S16 (row g k n) shapeCasts_S1x1x16_S16 x = nth g (Fin.ofNat 128 (16 * k + (x 0).val)) n := by
  let y : S1x1x16.Idx := fun | 0 => (0 : Fin 1) | 1 => (0 : Fin 1) | 2 => x 0
  have hy : Shape.reshapeEquiv shapeCasts_S1x1x16_S16 x = y := Shape.reshapeEquiv_eq_of_rowMajor _ (by
    rw [Shape.rowMajor_val_three, Shape.rowMajor_val_one]
    change (0 * 1 + 0) * 16 + (x 0).val = (x 0).val
    omega)
  change row g k n (Shape.reshapeEquiv shapeCasts_S1x1x16_S16 x) = _
  rw [hy]; rfl

theorem rows_apply (g : S26x1x128.Idx → F .f32) (k n : ℕ) (x : S16.Idx) :
    rows g k n x = upto (nth g (Fin.ofNat 128 (16 * k + (x 0).val))) n := by
  induction n with
  | zero => exact row_cast g k 0 x
  | succ n ih =>
    change FloatOps.addf (rows g k n x) (shapeCast S16 (row g k (n + 1)) shapeCasts_S1x1x16_S16 x) = _
    rw [ih, row_cast]; rfl

/-- The results below place `16 k` are the sums. -/
def Summed (g : S26x1x128.Idx → F .f32) (k : ℕ) (f : S128.Idx → F .f32) : Prop := ∀ z : S128.Idx, (z 0).val / 16 < k → f z = total g (z 0)

theorem summed_zero (g : S26x1x128.Idx → F .f32) (f : S128.Idx → F .f32) : Summed g 0 f := fun z h => by omega

theorem summed_all {g : S26x1x128.Idx → F .f32} {f : S128.Idx → F .f32} (h : Summed g 8 f) : f = fun z => total g (z 0) := funext fun z => by
  have h0 : (z 0).val < 128 := (z 0).isLt
  exact h z (by omega)

variable {d : Dev nD} {L : grid0.Coords}

theorem summed_store {g : S26x1x128.Idx → F .f32} {k : ℕ} (hk : k < 8) {f : S128.Idx → F .f32} (h : Summed g k f)
    {off : Fin 1 → ℕ} (hoff : off = ![16 * k]) (inb : ∀ a, off a + S16.size a ≤ S128.size a) :
    Summed g (k + 1) ((aV.access (Rect.unit (s := S128) off S16.size inb)).write (Elt F) f (rows g k 25) Finset.univ) := by
  subst hoff
  intro z hz
  have h0 : (z 0).val < 128 := (z 0).isLt
  by_cases hnow : (z 0).val / 16 = k
  · let y : S16.Idx := fun | 0 => (⟨(z 0).val - 16 * k, by omega⟩ : Fin 16)
    have hy : (aV.access (Rect.unit (s := S128) ![16 * k] S16.size inb)).emb y = z := by
      funext a
      obtain rfl := Fin.eq_zero a
      exact Fin.ext (by change 16 * k + 1 * ((z 0).val - 16 * k) = (z 0).val; omega)
    rw [← hy, View.write_emb_of_mem _ _ (Finset.mem_univ _), cast_eq, rows_apply, hy]
    refine congrArg (fun l => upto (nth g l) 25) (Fin.ext ?_)
    change (16 * k + ((z 0).val - 16 * k)) % 128 = (z 0).val
    omega
  · refine (View.write_of_not_mem _ _ _ fun hm => hnow ?_).trans (h z (by omega))
    obtain ⟨y, -, rfl⟩ := Finset.mem_map.mp hm
    have hy : (y 0).val < 16 := (y 0).isLt
    change (16 * k + 1 * (y 0).val) / 16 = k
    omega

/-- The tile's fetched entries, and its results before trip `k`. -/
abbrev Totals (g : Buf (Elt F) (rLoc d L)) (k : ℕ) : sProp 𝕄 :=
  iprop((rLoc d L ↦{fullShare} g) ∗ ∃ f : Buf (Elt F) (aLoc d L), ⌜Summed g k f⌝ ∗ (aLoc d L ↦{fullShare} f))

/-- The read of a row. -/
theorem row_then {α : Type} {Q : α → sProp 𝕄} {g : Buf (Elt F) (rLoc d L)} (k j : ℕ) (hk : k < 8) (n : ℕ) (hn : n < 26)
    {off : Fin 3 → ℕ} {inb : ∀ a, off a + S1x1x16.size a ≤ S26x1x128.size a} {hl}
    {cont : Vec F S1x1x16 .f32 → Prog (TpuEff nD τ sig (Elt F) Λ₀ (tile d L).2) α} (hoff : off = ![n, 0, 16 * k])
    (h : (Totals g j : sProp 𝕄) ⊢ wp frame (wpE (defs₀ (F := F)) 𝒱₀ (tile d L) none) Set.univ (cont (row g k n)) Q) :
    (Totals g j : sProp 𝕄) ⊢ wp frame (wpE (defs₀ (F := F)) 𝒱₀ (tile d L) none) Set.univ
      (.op (.load rV (Rect.unit (s := S26x1x128) off S1x1x16.size inb).toLoadRect hl) cont) Q := by
  have hr : rV.view.readAt (Elt F) (Rect.unit (s := S26x1x128) off S1x1x16.size inb).toLoadRect g = row g k n := by
    subst hoff
    funext y
    refine congrArg g (funext fun a => ?_)
    have h2 : (y 2).val < 16 := (y 2).isLt
    match a with
    | 0 => exact Fin.ext (by have : (y 0).val < 1 := (y 0).isLt; change n + 1 * (y 0).val = n % 26; omega)
    | 1 => exact Fin.ext (by have : (y 1).val < 1 := (y 1).isLt; change 0 + 1 * (y 1).val = 0; omega)
    | 2 => exact Fin.ext (by change 16 * k + 1 * (y 2).val = (16 * k + (y 2).val) % 128; omega)
  iintro ⟨Hr, Ha⟩
  iapply (wp_load 𝒱₀ (tile d L) none Set.univ (m := rV) (S := Finset.univ) (q := fullShare) (f := g) (Finset.subset_univ _)) $$ Hr
  iintro Hr
  rw [hr]
  iapply h
  iframe Hr Ha

set_option maxHeartbeats 4000000 in
set_option maxRecDepth 65536 in
/-- A trip of the second loop. -/
theorem sums_trip {g : Buf (Elt F) (rLoc d L)} (k : Fin k0_t2_loop.trips) :
    (Totals g k.val : sProp 𝕄) ⊢ wp frame (wpE (defs₀ (F := F)) 𝒱₀ (tile d L) none) Set.univ
      (k0_t2_body (F := F) L xcV (Memref.isWhole_whole _) wV (Memref.isWhole_whole _) oV (Memref.isWhole_whole _)
        pV (Memref.isWhole_whole _) iV (Memref.isWhole_whole _) rV (Memref.isWhole_whole _) aV (Memref.isWhole_whole _)
        cc0_scratch4 cc0_scoped0 cc0_scoped1 k ⟨⟩) fun _ => Totals g (k.val + 1) := by
  have hk : k.val < 8 := k.isLt
  unfold k0_t2_body
  simp only [k0_part11_eq_skeleton, k0_part12_eq_skeleton, k0_part13_eq_skeleton]
  unfold k0_part11_skel k0_part12_skel k0_part13_skel
  simp only [Prog.lift, Prog.bind_op, Prog.bind_ret, Prog.pure_eq_ret, bind_assoc]
  iterate 26
    refine row_then k.val _ hk ?_ ?_ ?_ ?_
    rotate_left 2
    · simp only [k0_off28_eq, k0_off29_eq, k0_off30_eq, k0_off31_eq, k0_off32_eq, k0_off33_eq, k0_off34_eq, k0_off35_eq,
        k0_off36_eq, k0_off37_eq, k0_off38_eq, k0_off39_eq, k0_off40_eq, k0_off41_eq, k0_off42_eq, k0_off43_eq, k0_off44_eq,
        k0_off45_eq, k0_off46_eq, k0_off47_eq, k0_off48_eq, k0_off49_eq, k0_off50_eq, k0_off51_eq, k0_off52_eq, k0_off53_eq]
      exact rfl
    rotate_left 1
    · decide
  iintro ⟨Hr, %f, %hf, Ha⟩
  iapply (wp_load 𝒱₀ (tile d L) none Set.univ (m := aV) (S := Finset.univ) (q := fullShare) (f := f) (Finset.subset_univ _)) $$ Ha
  iintro Ha
  iapply (wp_store 𝒱₀ (tile d L) none Set.univ (m := aV) (r := Rect.unit (s := S128) (k0_off54 k) S16.size (k0_off54_inb k)) (S := Finset.univ) (f := f) (Finset.subset_univ _)) $$ Ha
  iintro Ha
  rw [wp_ret]
  imodintro
  iframe Hr
  iexists _; isplitr
  swap; · iexact Ha
  ipureintro
  exact summed_store hk hf (k0_off54_eq k) _

end Cert.Proof.Run

end
-- ==== Proof.Fetch.lean ====
/-
  The 26 gathers of a tile, one after the other on one semaphore, and their 26 waits: the program's windows between the
  two loops.
-/
module

public import proofs.«01_k».proof.Proof.Sums

@[expose] public section

noncomputable section

namespace Cert.Proof.Run

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (SparseCore.Cfg.HIx 1) (Elt F) ℕ UU ℕ

variable {d : Dev nD} {L : grid0.Coords} {q : PosShare TreeShare} {w : Buf (Elt F) (wLoc d)} {fi : Buf (Elt F) (iLoc d L)}

/-- `gather_step`, with what follows given as a proof. -/
theorem gather_then {α : Type} {Q : α → sProp 𝕄} {R : sProp 𝕄} {fr : Buf (Elt F) (rLoc d L)} (hfi : ∀ z, BitVec.toNat (fi z) < 1040000) (c : ℕ) (hc : c < 26) (h h') {hp hn hsrc he hsp hr}
    {cont : PUnit → Prog (TpuEff nD τ sig (Elt F) Λ₀ (tile d L).2) α}
    (hk : (iprop(Issued q w fi fr (c + 1) ∗ R) : sProp 𝕄) ⊢ wp frame (wpE (defs₀ (F := F)) 𝒱₀ (tile d L) none) Set.univ (cont ⟨⟩) Q) :
    (iprop(Issued q w fi fr c ∗ R) : sProp 𝕄) ⊢ wp frame (wpE (defs₀ (F := F)) 𝒱₀ (tile d L) none) Set.univ
      (SparseCore.enqueueIndirectGather hp wAll (rowsOf c h) gathers_S1040000_S128 (listOf c h') hn cc0_scratch4.sem hsrc he hsp hr >>= cont) Q := by
  iintro ⟨H, HR⟩
  iapply (gather_step c hc h h' hfi) $$ H
  iintro H
  iapply hk
  iframe H HR

/-- `wait_step`, with what follows given as a proof. -/
theorem wait_then {α : Type} {Q : α → sProp 𝕄} {R : sProp 𝕄} {O : CellTallies nD τ sig (SparseCore.Cfg.HIx 1)} {W : Waits sig (SparseCore.Cfg.HIx 1)} (hO : ∀ g, O g none = 0)
    (c : ℕ) (hc : c < 25) (h) {hsrc hdst} {cont : PUnit → Prog (TpuEff nD τ sig (Elt F) Λ₀ (tile d L).2) α}
    (hk : (iprop(levAts (K (F := F)).L (K (F := F)).lev ∗ Waited q w fi (c + 1) ∗ Owing d L O W ∗ R) : sProp 𝕄)
      ⊢ wp frame (wpE (defs₀ (F := F)) 𝒱₀ (tile d L) none) Set.univ (cont ⟨⟩) Q) :
    (iprop(levAts (K (F := F)).L (K (F := F)).lev ∗ Waited q w fi c ∗ Owing d L O W ∗ R) : sProp 𝕄)
      ⊢ wp frame (wpE (defs₀ (F := F)) 𝒱₀ (tile d L) none) Set.univ
        (SparseCore.waitIndirectGather cc0_scratch4.sem wAll (rowsOf c h) hsrc hdst >>= cont) Q := by
  iintro ⟨#Hlv, H, HO, HR⟩
  iapply (wait_step c hc h hO) $$ [H HO]
  · iframe Hlv H HO
  iintro ⟨H, HO⟩
  iapply hk
  iframe Hlv H HO HR

set_option maxHeartbeats 4000000 in
set_option maxRecDepth 65536 in
/-- Gathers 2 … 25. -/
theorem gathers {α : Type} {Q : α → sProp 𝕄} {fr : Buf (Elt F) (rLoc d L)} (hfi : ∀ z, BitVec.toNat (fi z) < 1040000)
    {cont : Prog (TpuEff nD τ sig (Elt F) Λ₀ (tile d L).2) α} :
    (Issued q w fi fr 2 : sProp 𝕄) ⊢ iprop((Issued q w fi fr 26 -∗ wp frame (wpE (defs₀ (F := F)) 𝒱₀ (tile d L) none) Set.univ cont Q) -∗ wp frame (wpE (defs₀ (F := F)) 𝒱₀ (tile d L) none) Set.univ
      (k0_part15 (F := F) L xcV (Memref.isWhole_whole _) wV (Memref.isWhole_whole _) oV (Memref.isWhole_whole _) pV (Memref.isWhole_whole _) iV (Memref.isWhole_whole _)
        rV (Memref.isWhole_whole _) aV (Memref.isWhole_whole _) cc0_scratch4 cc0_scoped0 cc0_scoped1 >>= fun _ =>
      k0_part16 (F := F) L xcV (Memref.isWhole_whole _) wV (Memref.isWhole_whole _) oV (Memref.isWhole_whole _) pV (Memref.isWhole_whole _) iV (Memref.isWhole_whole _)
        rV (Memref.isWhole_whole _) aV (Memref.isWhole_whole _) cc0_scratch4 cc0_scoped0 cc0_scoped1 >>= fun _ =>
      k0_part17 (F := F) L xcV (Memref.isWhole_whole _) wV (Memref.isWhole_whole _) oV (Memref.isWhole_whole _) pV (Memref.isWhole_whole _) iV (Memref.isWhole_whole _)
        rV (Memref.isWhole_whole _) aV (Memref.isWhole_whole _) cc0_scratch4 cc0_scoped0 cc0_scoped1 >>= fun _ =>
      k0_part18 (F := F) L xcV (Memref.isWhole_whole _) wV (Memref.isWhole_whole _) oV (Memref.isWhole_whole _) pV (Memref.isWhole_whole _) iV (Memref.isWhole_whole _)
        rV (Memref.isWhole_whole _) aV (Memref.isWhole_whole _) cc0_scratch4 cc0_scoped0 cc0_scoped1 >>= fun _ =>
      k0_part19 (F := F) L xcV (Memref.isWhole_whole _) wV (Memref.isWhole_whole _) oV (Memref.isWhole_whole _) pV (Memref.isWhole_whole _) iV (Memref.isWhole_whole _)
        rV (Memref.isWhole_whole _) aV (Memref.isWhole_whole _) cc0_scratch4 cc0_scoped0 cc0_scoped1 >>= fun _ =>
      k0_part20 (F := F) L xcV (Memref.isWhole_whole _) wV (Memref.isWhole_whole _) oV (Memref.isWhole_whole _) pV (Memref.isWhole_whole _) iV (Memref.isWhole_whole _)
        rV (Memref.isWhole_whole _) aV (Memref.isWhole_whole _) cc0_scratch4 cc0_scoped0 cc0_scoped1 >>= fun _ =>
      k0_part21 (F := F) L xcV (Memref.isWhole_whole _) wV (Memref.isWhole_whole _) oV (Memref.isWhole_whole _) pV (Memref.isWhole_whole _) iV (Memref.isWhole_whole _)
        rV (Memref.isWhole_whole _) aV (Memref.isWhole_whole _) cc0_scratch4 cc0_scoped0 cc0_scoped1 >>= fun _ =>
      cont) Q) := by
  refine BI.wand_intro (?_ : (iprop(Issued q w fi fr 2 ∗ (Issued q w fi fr 26 -∗ wp frame (wpE (defs₀ (F := F)) 𝒱₀ (tile d L) none) Set.univ cont Q)) : sProp 𝕄) ⊢ _)
  simp only [k0_part15_eq_skeleton, k0_part16_eq_skeleton, k0_part17_eq_skeleton, k0_part18_eq_skeleton, k0_part19_eq_skeleton, k0_part20_eq_skeleton, k0_part21_eq_skeleton]
  unfold k0_part15_skel k0_part16_skel k0_part17_skel k0_part18_skel k0_part19_skel k0_part20_skel k0_part21_skel
  simp only [Prog.bind_ret, Prog.pure_eq_ret, bind_assoc]
  iterate 24 refine gather_then hfi _ (by decide) _ _ ?_
  iintro ⟨H, Hk⟩
  iapply Hk $$ H

set_option maxHeartbeats 4000000 in
set_option maxRecDepth 65536 in
/-- The waits for gathers 0 … 24. -/
theorem waits {α : Type} {Q : α → sProp 𝕄} {O : CellTallies nD τ sig (SparseCore.Cfg.HIx 1)} {W : Waits sig (SparseCore.Cfg.HIx 1)} (hO : ∀ g, O g none = 0)
    {cont : Prog (TpuEff nD τ sig (Elt F) Λ₀ (tile d L).2) α} :
    (iprop(levAts (K (F := F)).L (K (F := F)).lev ∗ Waited q w fi 0 ∗ Owing d L O W) : sProp 𝕄)
      ⊢ iprop((iprop(Waited q w fi 25 ∗ Owing d L O W) -∗ wp frame (wpE (defs₀ (F := F)) 𝒱₀ (tile d L) none) Set.univ cont Q) -∗ wp frame (wpE (defs₀ (F := F)) 𝒱₀ (tile d L) none) Set.univ
      (k0_part22 (F := F) L xcV (Memref.isWhole_whole _) wV (Memref.isWhole_whole _) oV (Memref.isWhole_whole _) pV (Memref.isWhole_whole _) iV (Memref.isWhole_whole _)
        rV (Memref.isWhole_whole _) aV (Memref.isWhole_whole _) cc0_scratch4 cc0_scoped0 cc0_scoped1 >>= fun _ =>
      k0_part23 (F := F) L xcV (Memref.isWhole_whole _) wV (Memref.isWhole_whole _) oV (Memref.isWhole_whole _) pV (Memref.isWhole_whole _) iV (Memref.isWhole_whole _)
        rV (Memref.isWhole_whole _) aV (Memref.isWhole_whole _) cc0_scratch4 cc0_scoped0 cc0_scoped1 >>= fun _ =>
      k0_part24 (F := F) L xcV (Memref.isWhole_whole _) wV (Memref.isWhole_whole _) oV (Memref.isWhole_whole _) pV (Memref.isWhole_whole _) iV (Memref.isWhole_whole _)
        rV (Memref.isWhole_whole _) aV (Memref.isWhole_whole _) cc0_scratch4 cc0_scoped0 cc0_scoped1 >>= fun _ =>
      k0_part25 (F := F) L xcV (Memref.isWhole_whole _) wV (Memref.isWhole_whole _) oV (Memref.isWhole_whole _) pV (Memref.isWhole_whole _) iV (Memref.isWhole_whole _)
        rV (Memref.isWhole_whole _) aV (Memref.isWhole_whole _) cc0_scratch4 cc0_scoped0 cc0_scoped1 >>= fun _ =>
      k0_part26 (F := F) L xcV (Memref.isWhole_whole _) wV (Memref.isWhole_whole _) oV (Memref.isWhole_whole _) pV (Memref.isWhole_whole _) iV (Memref.isWhole_whole _)
        rV (Memref.isWhole_whole _) aV (Memref.isWhole_whole _) cc0_scratch4 cc0_scoped0 cc0_scoped1 >>= fun _ =>
      k0_part27 (F := F) L xcV (Memref.isWhole_whole _) wV (Memref.isWhole_whole _) oV (Memref.isWhole_whole _) pV (Memref.isWhole_whole _) iV (Memref.isWhole_whole _)
        rV (Memref.isWhole_whole _) aV (Memref.isWhole_whole _) cc0_scratch4 cc0_scoped0 cc0_scoped1 >>= fun _ =>
      k0_part28 (F := F) L xcV (Memref.isWhole_whole _) wV (Memref.isWhole_whole _) oV (Memref.isWhole_whole _) pV (Memref.isWhole_whole _) iV (Memref.isWhole_whole _)
        rV (Memref.isWhole_whole _) aV (Memref.isWhole_whole _) cc0_scratch4 cc0_scoped0 cc0_scoped1 >>= fun _ =>
      cont) Q) := by
  suffices h : (iprop(levAts (K (F := F)).L (K (F := F)).lev ∗ Waited q w fi 0 ∗ Owing d L O W
      ∗ (iprop(Waited q w fi 25 ∗ Owing d L O W) -∗ wp frame (wpE (defs₀ (F := F)) 𝒱₀ (tile d L) none) Set.univ cont Q)) : sProp 𝕄) ⊢ wp frame (wpE (defs₀ (F := F)) 𝒱₀ (tile d L) none) Set.univ
      (k0_part22 (F := F) L xcV (Memref.isWhole_whole _) wV (Memref.isWhole_whole _) oV (Memref.isWhole_whole _) pV (Memref.isWhole_whole _) iV (Memref.isWhole_whole _)
        rV (Memref.isWhole_whole _) aV (Memref.isWhole_whole _) cc0_scratch4 cc0_scoped0 cc0_scoped1 >>= fun _ =>
      k0_part23 (F := F) L xcV (Memref.isWhole_whole _) wV (Memref.isWhole_whole _) oV (Memref.isWhole_whole _) pV (Memref.isWhole_whole _) iV (Memref.isWhole_whole _)
        rV (Memref.isWhole_whole _) aV (Memref.isWhole_whole _) cc0_scratch4 cc0_scoped0 cc0_scoped1 >>= fun _ =>
      k0_part24 (F := F) L xcV (Memref.isWhole_whole _) wV (Memref.isWhole_whole _) oV (Memref.isWhole_whole _) pV (Memref.isWhole_whole _) iV (Memref.isWhole_whole _)
        rV (Memref.isWhole_whole _) aV (Memref.isWhole_whole _) cc0_scratch4 cc0_scoped0 cc0_scoped1 >>= fun _ =>
      k0_part25 (F := F) L xcV (Memref.isWhole_whole _) wV (Memref.isWhole_whole _) oV (Memref.isWhole_whole _) pV (Memref.isWhole_whole _) iV (Memref.isWhole_whole _)
        rV (Memref.isWhole_whole _) aV (Memref.isWhole_whole _) cc0_scratch4 cc0_scoped0 cc0_scoped1 >>= fun _ =>
      k0_part26 (F := F) L xcV (Memref.isWhole_whole _) wV (Memref.isWhole_whole _) oV (Memref.isWhole_whole _) pV (Memref.isWhole_whole _) iV (Memref.isWhole_whole _)
        rV (Memref.isWhole_whole _) aV (Memref.isWhole_whole _) cc0_scratch4 cc0_scoped0 cc0_scoped1 >>= fun _ =>
      k0_part27 (F := F) L xcV (Memref.isWhole_whole _) wV (Memref.isWhole_whole _) oV (Memref.isWhole_whole _) pV (Memref.isWhole_whole _) iV (Memref.isWhole_whole _)
        rV (Memref.isWhole_whole _) aV (Memref.isWhole_whole _) cc0_scratch4 cc0_scoped0 cc0_scoped1 >>= fun _ =>
      k0_part28 (F := F) L xcV (Memref.isWhole_whole _) wV (Memref.isWhole_whole _) oV (Memref.isWhole_whole _) pV (Memref.isWhole_whole _) iV (Memref.isWhole_whole _)
        rV (Memref.isWhole_whole _) aV (Memref.isWhole_whole _) cc0_scratch4 cc0_scoped0 cc0_scoped1 >>= fun _ =>
      cont) Q by
    iintro ⟨#Hlv, H, HO⟩ Hk
    iapply h
    iframe Hlv H HO Hk
  simp only [k0_part22_eq_skeleton, k0_part23_eq_skeleton, k0_part24_eq_skeleton, k0_part25_eq_skeleton, k0_part26_eq_skeleton, k0_part27_eq_skeleton, k0_part28_eq_skeleton]
  unfold k0_part22_skel k0_part23_skel k0_part24_skel k0_part25_skel k0_part26_skel k0_part27_skel k0_part28_skel
  simp only [Prog.bind_ret, Prog.pure_eq_ret, bind_assoc]
  iterate 25 refine wait_then hO _ (by decide) _ ?_
  iintro ⟨-, H, HO, Hk⟩
  iapply Hk
  iframe H HO

end Cert.Proof.Run

end
-- ==== Proof.Tile.lean ====
/-
  The run of a tile: its words in, the index lists, the gathers and their waits, the sums, its results out.
-/
module

public import proofs.«01_k».proof.Proof.Fetch

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (SparseCore.Cfg.HIx 1) (Elt F) ℕ UU ℕ

/-! ## What a tile computes -/

/-- Place `n` of the packed words. -/
def packed (n : ℕ) : S106496.Idx := fun | 0 => (⟨n % 106496, Nat.mod_lt _ (by decide)⟩ : Fin 106496)

/-- The sum for every sample, out of the packed words and the table: the table entries of the sample's 26 words, added
    from the first to the last. -/
def sums (xc : S106496.Idx → BitVec 32) (w : S1x1040000.Idx → F .f32) : S4096.Idx → F .f32 := fun z =>
  upto (fun n => w (entry (BitVec.toNat (index (xc (packed (26 * (z 0).val + n))))))) 25

/-- The tile's number. -/
abbrev number (L : grid0.Coords) : ℕ := 2 * (L 1).val + (L 0).val

theorem number_lt (L : grid0.Coords) : number L < 32 := by
  have h0 : (L 0).val < 2 := (L 0).isLt
  have h1 : (L 1).val < 16 := (L 1).isLt
  unfold number; omega

/-- The tile's part of the packed words. -/
abbrev xcK (L : grid0.Coords) : Memref sig .scVector .hbm S3328 .i32 := xcV.slice (Rect.unit (s := S106496) (k0_off1 L) S3328.size (k0_off1_inb L)) (fun _ => rfl)
/-- The tile's part of the results. -/
abbrev oK (L : grid0.Coords) : Memref sig .scVector .hbm S128 .f32 := oV.slice (Rect.unit (s := S4096) (k0_off55 L) S128.size (k0_off55_inb L)) (fun _ => rfl)

/-- The places of the tile's results. -/
abbrev oSet (L : grid0.Coords) : Finset S4096.Idx := (oK L).view.set

theorem xcK_emb (L : grid0.Coords) (m : ℕ) (hm : m < 3328) : (xcK L).view.emb (word m) = packed (3328 * number L + m) := by
  have h := number_lt L
  funext a
  obtain rfl := Fin.eq_zero a
  refine Fin.ext ?_
  change k0_off1 L 0 + 1 * (m % 3328) = (3328 * number L + m) % 106496
  rw [k0_off1_eq]
  change 6656 * (L 1).val + 3328 * (L 0).val + 1 * (m % 3328) = _
  unfold number at *; omega

/-- The tile's words. -/
def part (L : grid0.Coords) (xc : S106496.Idx → BitVec 32) : S3328.Idx → BitVec 32 := fun z => xc (packed (3328 * number L + (z 0).val))

theorem read_part (L : grid0.Coords) (xc : S106496.Idx → BitVec 32) : (xcK L).view.read (Elt F) xc = part L xc := by
  funext z
  have hz : (z 0).val < 3328 := (z 0).isLt
  have e : z = word (z 0).val := funext fun a => by
    obtain rfl := Fin.eq_zero a
    exact Fin.ext (Nat.mod_eq_of_lt hz).symm
  rw [View.read_apply, cast_eq, e, xcK_emb L _ hz]
  exact congrArg (fun n => xc (packed (3328 * number L + n))) (Nat.mod_eq_of_lt hz).symm

theorem oK_emb (L : grid0.Coords) (x : S128.Idx) : (((oK L).view.emb x : S4096.Idx) 0).val = 128 * number L + (x 0).val := by
  change k0_off55 L 0 + 1 * (x 0).val = _
  rw [k0_off55_eq]
  change 256 * (L 1).val + 128 * (L 0).val + 1 * (x 0).val = _
  unfold number; omega

/-- The tile's sums are its part of the sums. -/
theorem total_eq (L : grid0.Coords) (xc : S106496.Idx → BitVec 32) (w : S1x1040000.Idx → F .f32) (x : S128.Idx) :
    total (fun z => w (entry (BitVec.toNat (lists (part L xc) z)))) (x 0) = sums xc w ((oK L).view.emb x) := by
  have hx : (x 0).val < 128 := (x 0).isLt
  have key : ∀ n, n ≤ 25 → upto (nth (fun z => w (entry (BitVec.toNat (lists (part L xc) z)))) (x 0)) n
      = upto (fun n => w (entry (BitVec.toNat (index (xc (packed (26 * (((oK L).view.emb x : S4096.Idx) 0).val + n))))))) n := by
    have one : ∀ n, n ≤ 25 → nth (fun z => w (entry (BitVec.toNat (lists (part L xc) z)))) (x 0) n
        = w (entry (BitVec.toNat (index (xc (packed (26 * (((oK L).view.emb x : S4096.Idx) 0).val + n)))))) := fun n hn => by
      change w (entry (BitVec.toNat (index (xc (packed (3328 * number L + (26 * (x 0).val + n % 26) % 3328)))))) = _
      rw [Nat.mod_eq_of_lt (show n < 26 by omega), Nat.mod_eq_of_lt (show 26 * (x 0).val + n < 3328 by omega), oK_emb,
        show 3328 * number L + (26 * (x 0).val + n) = 26 * (128 * number L + (x 0).val) + n by omega]
    intro n hn
    induction n with
    | zero => exact one 0 hn
    | succ n ih =>
      change FloatOps.addf _ _ = FloatOps.addf _ _
      rw [ih (by omega), one (n + 1) hn]
  exact key 25 le_rfl

/-- What the copy out leaves in the tile's part of the results. -/
theorem out_value (L : grid0.Coords) (xc : S106496.Idx → BitVec 32) (w : S1x1040000.Idx → F .f32) (fo : S4096.Idx → F .f32) (p : S128.Idx → F .f32)
    (hp : p = fun z => total (fun z => w (entry (BitVec.toNat (lists (part L xc) z)))) (z 0)) :
    ∀ i ∈ oSet L, (oK L).view.writes (Elt F) fo [⟨Rect.whole S128, p⟩] i = sums xc w i := by
  intro i hi
  obtain ⟨x, -, rfl⟩ := Finset.mem_map.mp hi
  have hx : ((oK L).view.slice (Rect.whole S128)).emb x = (oK L).view.emb x := by
    funext a
    obtain rfl := Fin.eq_zero a
    refine Fin.ext ?_
    change k0_off55 L 0 + 1 * (0 + 1 * (x 0).val) = k0_off55 L 0 + 1 * (x 0).val
    omega
  rw [View.writes_singleton, ← total_eq, ← hx, View.write_emb_of_mem _ _ (Finset.mem_univ _), cast_eq, hp]

section Tile

variable (d : Dev nD) (L : grid0.Coords)

abbrev gCell : GSem nD τ sig := (tile d L, .dma cc0_scratch4.sem)
abbrev inCell : GSem nD τ sig := (tile d L, .dma cc0_scoped0.sem)
abbrev outCell : GSem nD τ sig := (tile d L, .dma cc0_scoped1.sem)

omit [FloatOps F] in
/-- The three semaphores the tile uses, and its others. -/
theorem ownSems0_V :
    (ownSems0 (V d (cV L) (jV L)) : sProp 𝕄)
      = iprop(semVal (gCell d L) 0 ∗ semVal (inCell d L) 0 ∗ semVal (outCell d L) 0
          ∗ bigSep ((((ownCells (tile d L)).erase (gCell d L)).erase (inCell d L)).erase (outCell d L)) fun g => semVal g 0) := by
  unfold SparseCore.Cfg.ownSems0
  rw [SparseCore.bigSep_erase' ((mem_ownCells (g := gCell d L)).mpr ⟨rfl, by
      show (SemLoc.dma cc0_scratch4.sem : SemLoc sig).isScoped .scVector = true; decide⟩),
    SparseCore.bigSep_erase' (Finset.mem_erase.mpr ⟨by simp [gCell, inCell]; decide, (mem_ownCells (g := inCell d L)).mpr ⟨rfl, by
      show (SemLoc.dma cc0_scoped0.sem : SemLoc sig).isScoped .scVector = true; decide⟩⟩),
    SparseCore.bigSep_erase' (Finset.mem_erase.mpr ⟨by simp [inCell, outCell]; decide, Finset.mem_erase.mpr ⟨by simp [gCell, outCell]; decide,
      (mem_ownCells (g := outCell d L)).mpr ⟨rfl, by show (SemLoc.dma cc0_scoped1.sem : SemLoc sig).isScoped .scVector = true; decide⟩⟩⟩)]

/-- A buffer of the tile, as one of the device's. -/
abbrev own (L : grid0.Coords) (r : Ref sig .scVector) : DevRef τ sig := (Proc.scVector (cV L) (jV L)).devRef r

theorem own_ne (L : grid0.Coords) {r r' : Ref sig .scVector} (h : r ≠ r') : own L r ≠ own L r' := fun e => h (Proc.devRef_injective _ e)

omit [FloatOps F] in
/-- The four buffers the tile uses, and its others. -/
theorem ownBufs_V :
    (ownBufs (V d (cV L) (jV L)) : sProp 𝕄)
      = iprop((∃ f, pLoc d L ↦{fullShare} f) ∗ (∃ f, iLoc d L ↦{fullShare} f) ∗ (∃ f, rLoc d L ↦{fullShare} f) ∗ (∃ f, aLoc d L ↦{fullShare} f)
          ∗ bigSep (((((ownRefs (τ := τ) (.scVector (cV L) (jV L))).erase (own L cc0_scratch0)).erase (own L cc0_scratch1)).erase (own L cc0_scratch2)).erase (own L cc0_scratch3))
              fun b => iprop(∃ f, ((d, b) : Loc nD τ sig) ↦{fullShare} f)) := by
  have mem : ∀ r : Ref sig .scVector, (own L r).owner = .proc (Proc.scVector (cV L) (jV L)) → own L r ∈ ownRefs (τ := τ) (.scVector (cV L) (jV L)) := fun r h =>
    SparseCore.Cfg.mem_ownRefs_of_owner h
  unfold SparseCore.Cfg.ownBufs
  refine (SparseCore.bigSep_erase' (mem cc0_scratch0 rfl)).trans ?_
  rw [SparseCore.bigSep_erase' (Finset.mem_erase.mpr ⟨own_ne L (by decide), mem cc0_scratch1 rfl⟩),
    SparseCore.bigSep_erase' (Finset.mem_erase.mpr ⟨own_ne L (by decide), Finset.mem_erase.mpr ⟨own_ne L (by decide), mem cc0_scratch2 rfl⟩⟩),
    SparseCore.bigSep_erase' (Finset.mem_erase.mpr ⟨own_ne L (by decide), Finset.mem_erase.mpr ⟨own_ne L (by decide),
      Finset.mem_erase.mpr ⟨own_ne L (by decide), mem cc0_scratch3 rfl⟩⟩⟩)]

set_option maxHeartbeats 4000000 in
/-- The tile's run: from a share of the packed words and of the table, and its part of the results at any contents, to
    these shares and its part of the sums. -/
theorem tile_body (hF : (K (F := F)).Facts) (qx qw : PosShare TreeShare) (xc : Buf (Elt F) (xcLoc d)) (w : Buf (Elt F) (wLoc d))
    (hxc : ∀ i, BitVec.toNat (index (xc i)) < 1040000)
    (O : CellTallies nD τ sig (HIx 1)) (W : Waits sig (HIx 1)) (hO : ∀ g, O g none = 0) :
    (iprop(levAts (K (F := F)).L (K (F := F)).lev ∗ emp
        ∗ ((xcLoc d ↦{qx} xc) ∗ (wLoc d ↦{qw} w) ∗ ∃ f : Buf (Elt F) (oLoc d), oLoc d ↦[oSet L]{fullShare} f)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__features_linear_sc L xcV (Memref.isWhole_whole _) wV (Memref.isWhole_whole _) oV (Memref.isWhole_whole _)
            pV (Memref.isWhole_whole _) iV (Memref.isWhole_whole _) rV (Memref.isWhole_whole _) aV (Memref.isWhole_whole _)
            cc0_scratch4 cc0_scoped0 cc0_scoped1)
          fun _ => iprop(((xcLoc d ↦{qx} xc) ∗ (wLoc d ↦{qw} w) ∗ (oLoc d ↦[oSet L]{fullShare} sums xc w))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__features_linear_sc_eq_skeleton]; unfold cc0__features_linear_sc_skel
  simp only [k0_part14_eq_skeleton]; unfold k0_part14_skel
  simp only [Prog.lift, Prog.bind_op, Prog.bind_ret, Prog.pure_eq_ret, bind_assoc]
  rw [(K (F := F)).scopedBufs_V hF d (cV L) (jV L), SparseCore.Cfg.scopedSems0_V (Val := Elt F) d (cV L) (jV L), ownSems0_V, ownBufs_V]
  iintro ⟨#Hlv, -, ⟨Hx, Hw, %fo, Ho⟩, ⟨⟨%fp, Hp⟩, ⟨%fi, Hi⟩, ⟨%fr, Hr⟩, ⟨%fa, Ha⟩, Hbufs⟩, ⟨Hg, Hin, Hout, Hsems⟩, HO⟩
  ihave Hmw := (show levAts (K (F := F)).L (K (F := F)).lev ⊢ Transfers.MayWaits (tile d L) (default : HIx 1) O from
    (K (F := F)).mayWaits_none (thr := tile d L) hO) $$ Hlv
  ihave Hx' := (Entails.of_eq (show (xcLoc d ↦{qx} xc : sProp 𝕄) = ((xcV).view.loc (tile d L) ↦{qx} xc) from rfl)) $$ Hx
  ihave Hp' := (Entails.of_eq (show (pLoc d L ↦{fullShare} fp : sProp 𝕄) = ((pV).view.loc (tile d L) ↦{fullShare} fp) from rfl)) $$ Hp
  ihave Ho' := (Entails.of_eq (show (oLoc d ↦[oSet L]{fullShare} fo : sProp 𝕄) = ((oK L).view.loc (tile d L) ↦[(oK L).view.set]{fullShare} fo) from rfl)) $$ Ho
  sl_exec
  -- the tile's words are its part of the packed ones
  have hp : View.write (Elt F) pV.view fp (tile_body.sl.dma0 d L xc) Finset.univ = part L xc :=
    (View.write_whole_univ _ _ _).trans (read_part L xc)
  rw [hp]
  -- the index lists
  sl_for (fun k _ => Fields (part L xc) k 0) $$ [Hp' Hi]
  · intro k acc
    exact lists_trip k
  · iframe Hp'
    iexists fi
    iframe Hi
    ipureintro
    exact done_zero _ _
  iintro %acc ⟨Hp', %fi', %hfi, Hi⟩
  obtain rfl := done_all hfi
  have hin : ∀ z, BitVec.toNat (lists (part L xc) z) < 1040000 := fun z => hxc _
  -- the gathers
  imod (issued_zero qw w (lists (part L xc)) fr) $$ [Hr Hi Hw Hg] with Hs
  · iframe Hr Hi Hw Hg
  iapply (gather_step 0 (by decide) _ _ hin) $$ Hs
  iintro Hs
  iapply (gather_step 1 (by decide) _ _ hin) $$ Hs
  iintro Hs
  iapply (gathers hin) $$ Hs
  iintro Hs
  -- their waits
  ihave Hs := (issued_all qw w (lists (part L xc)) fr) $$ Hs
  iapply (waits hO) $$ [Hs HO]
  · iframe Hlv Hs
    iexists _
    iframe HO
    ipureintro
    intro p hp
    rcases Finset.mem_insert.mp hp with rfl | h
    · exact .inr rfl
    · exact .inl h
  iintro ⟨Hs, HO⟩
  iapply (wait_last _ hO) $$ [Hs HO]
  · iframe Hlv Hs HO
  rw [todo_all]
  iintro ⟨⟨⟨Hr, Hi⟩, Hw⟩, Hg, %W', %hW', HO⟩
  -- the sums
  sl_for (fun k _ => Totals (fetched w (lists (part L xc))) k) $$ [Hr Ha]
  · intro k acc
    exact sums_trip k
  · iframe Hr
    iexists fa
    iframe Ha
    ipureintro
    exact summed_zero _ _
  iintro %acc ⟨Hr, %fa', %hfa, Ha⟩
  have hsum := summed_all hfa
  clear hfa
  ihave Ha' := (Entails.of_eq (show (aLoc d L ↦{fullShare} fa' : sProp 𝕄) = ((aV).view.loc (tile d L) ↦{fullShare} fa') from rfl)) $$ Ha
  sl_exec
  rw [wp_ret]
  imodintro
  have hout : ∀ i ∈ oSet L, (oK L).view.writes (Elt F) fo [⟨Rect.whole S128, tile_body.sl.dma0_1 d L fa'⟩] i = sums xc w i :=
    out_value L xc w fo _ hsum
  isplitl [Hx' Hw Ho']
  · isplitl [Hx']; · iexact Hx'
    isplitl [Hw]; · iexact Hw
    iapply (Entails.of_eq (pointsTo_congr hout)) $$ Ho'
  isplitl [Hp' Hi Hr Ha' Hbufs]
  · isplitl [Hp']; · iexists _; iexact Hp'
    isplitl [Hi]; · iexists _; iexact Hi
    isplitl [Hr]; · iexists _; iexact Hr
    isplitl [Ha']; · iexists _; iexact Ha'
    iexact Hbufs
  isplitl [Hg Hin Hout Hsems]
  · isplitl [Hg]; · iexact Hg
    isplitl [Hin]; · iexact Hin
    isplitl [Hout]; · iexact Hout
    iexact Hsems
  iexists _; isplitr
  swap; · iexact HO
  ipureintro
  intro p hp
  rcases Finset.mem_insert.mp hp with rfl | h
  · exact .inr rfl
  · exact hW' p h

end Tile

end Cert.Proof.Run

end
-- ==== Proof.Launch.lean ====
/-
  The launch: what each SparseCore and each of its tiles takes and hands back, the packed words and the table dealt out as
  read shares, the result cut into the tiles' parts; the host program around the call; and the run of the whole program,
  with the contents of every buffer at its end.
-/
module

public import proofs.«01_k».proof.Proof.Tile
public import Idealize.ShloMosaic.Lib.Pipeline.FrameTail

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx)
open Idealize.ShloMosaic.StableHlo (held seq after wp_seq)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (SparseCore.Cfg.HIx 1) (Elt F) ℕ UU ℕ

variable (m : (ℓ : Loc nD τ sig) → Buf (Elt F) ℓ) (ρ : Dev nD → PrngReg)

/-! ## The host program before and after the call -/

/-- The operations before the call: the packed words, and the table laid out as one row. -/
abbrev opsBefore : List (HloOp τ sig (Elt F)) :=
  [StableHlo.nullary main_c (constantI S_ 32 32#32),
   StableHlo.unary main_c main_v0 (broadcastInDim S4096x26 ![] bcast_S_S4096x26 : (⟨S_, .i32⟩ : BufTy).Contents (Elt F) → (⟨S4096x26, .i32⟩ : BufTy).Contents (Elt F)),
   StableHlo.binary main_arg1 main_v0 main_v1 (muli : (⟨S4096x26, .i32⟩ : BufTy).Contents (Elt F) → (⟨S4096x26, .i32⟩ : BufTy).Contents (Elt F) → (⟨S4096x26, .i32⟩ : BufTy).Contents (Elt F)),
   StableHlo.binary main_v1 main_arg0 main_v2 (addi : (⟨S4096x26, .i32⟩ : BufTy).Contents (Elt F) → (⟨S4096x26, .i32⟩ : BufTy).Contents (Elt F) → (⟨S4096x26, .i32⟩ : BufTy).Contents (Elt F)),
   StableHlo.reshape main_v2 main_v3 (rfl : (.i32 : EltTy) = .i32) shapeCasts_S4096x26_S106496,
   StableHlo.unary main_arg2 main_v4 ((transpose S1x1040000 [1, 0] · transposes_S1040000x1_S1x1040000_1_0) : (⟨S1040000x1, .f32⟩ : BufTy).Contents (Elt F) → (⟨S1x1040000, .f32⟩ : BufTy).Contents (Elt F))]

/-- The operations after the call: the sums as a column, and the bias added. -/
abbrev opsAfter : List (HloOp τ sig (Elt F)) :=
  [StableHlo.reshape main_v5 main_v6 (rfl : (.f32 : EltTy) = .f32) shapeCasts_S4096_S4096x1,
   StableHlo.unary main_arg3 main_v7 (broadcastInDim S1x1 ![1] bcast_S1_S1x1_1 : (⟨S1, .f32⟩ : BufTy).Contents (Elt F) → (⟨S1x1, .f32⟩ : BufTy).Contents (Elt F)),
   StableHlo.unary main_v7 main_v8 (broadcastInDim S4096x1 ![0, 1] bcast_S1x1_S4096x1_0_1 : (⟨S1x1, .f32⟩ : BufTy).Contents (Elt F) → (⟨S4096x1, .f32⟩ : BufTy).Contents (Elt F)),
   StableHlo.binary main_v6 main_v8 main_v9 (addf : (⟨S4096x1, .f32⟩ : BufTy).Contents (Elt F) → (⟨S4096x1, .f32⟩ : BufTy).Contents (Elt F) → (⟨S4096x1, .f32⟩ : BufTy).Contents (Elt F))]

omit [FloatOps F] in
theorem main_eq [FloatOps F] (d : Dev nD) : main (F := F) d = seq opsBefore >>= fun _ => (K (F := F)).run d 0 >>= fun _ => seq opsAfter >>= fun _ => pure ⟨⟩ := rfl

/-- The launch's contents of a device. -/
abbrev V0 (d : Dev nD) : Valuation τ sig (Elt F) := fun b => m (d, b)
/-- What the operations before the call leave. -/
def V1 (d : Dev nD) : Valuation τ sig (Elt F) := after opsBefore (V0 m d)
/-- The packed words the call is handed. -/
def xcs (d : Dev nD) : Buf (Elt F) (xcLoc d) := V1 m d (Proc.devRef .tc main_v3)
/-- The table the call is handed. -/
def tbl (d : Dev nD) : Buf (Elt F) (wLoc d) := V1 m d (Proc.devRef .tc main_v4)
/-- What the call leaves. -/
def V2 (d : Dev nD) : Valuation τ sig (Elt F) := Function.update (V1 m d) (Proc.devRef .tc main_v5) (sums (xcs m d) (tbl m d))
/-- What the program leaves. -/
def V3 (d : Dev nD) : Valuation τ sig (Elt F) := after opsAfter (V2 m d)

/-! ## What the parties take and hand back -/

/-- The tile at grid place `(c, s)`. -/
def coordsV (c : Fin (grid0.bound 0)) (s : Fin (grid0.bound 1)) : grid0.Coords :=
  fun | 0 => c | 1 => s | ⟨_ + 2, h⟩ => absurd h (Nat.not_lt.2 (Nat.le_add_left _ _))

/-- The read share of tile `s` of SparseCore `c`. -/
def share (c : Fin 2) (s : Fin 16) : PosShare TreeShare := pieceOf (pieceOf fullShare 2 (by decide) c) 16 (by decide) s

/-- What a tile takes: a share of the packed words, a share of the table, its part of the result. -/
def tileIn (d : Dev nD) (c : Fin 2) (s : Fin 16) : sProp 𝕄 :=
  iprop((xcLoc d ↦{share c s} xcs m d) ∗ (wLoc d ↦{share c s} tbl m d) ∗ ∃ f : Buf (Elt F) (oLoc d), oLoc d ↦[oSet (coordsV c s)]{fullShare} f)

/-- What it hands back: the shares, and its part of the result at the sums. -/
def tileOut (d : Dev nD) (c : Fin 2) (s : Fin 16) : sProp 𝕄 :=
  iprop((xcLoc d ↦{share c s} xcs m d) ∗ (wLoc d ↦{share c s} tbl m d) ∗ oLoc d ↦[oSet (coordsV c s)]{fullShare} sums (xcs m d) (tbl m d))

instance (d : Dev nD) (c : Fin 2) (s : Fin 16) : BI.Storable (upEmb : UEmb _ 𝕄) (tileIn m d c s) := by unfold tileIn; infer_instance
instance (d : Dev nD) (c : Fin 2) (s : Fin 16) : BI.Storable (upEmb : UEmb _ 𝕄) (tileOut m d c s) := by unfold tileOut; infer_instance

/-- The payloads of the call's handshakes. -/
def P : (K (F := F)).Pay (nD := nD) (Val := Elt F) (Name := ℕ) (U := UU) where
  st := fun q d c => match q with | 0 => bigSep Finset.univ fun s : Fin 16 => tileIn m d (Fin.cast nCore_zero c) s
  dn := fun q d c => match q with | 0 => bigSep Finset.univ fun s : Fin 16 => tileOut m d (Fin.cast nCore_zero c) s
  go := fun q d c i => match q with | 0 => tileIn m d (Fin.cast nCore_zero c) (Fin.cast nSub_zero i)
  td := fun q d c i => match q with | 0 => tileOut m d (Fin.cast nCore_zero c) (Fin.cast nSub_zero i)
  x := fun _ _ => iprop(emp)

instance P_storable : (P m).IsStorable where
  st q d c := match q with
    | 0 => (inferInstance : BI.Storable (upEmb : UEmb _ 𝕄) (bigSep Finset.univ fun s : Fin 16 => tileIn m d (Fin.cast nCore_zero c) s))
  dn q d c := match q with
    | 0 => (inferInstance : BI.Storable (upEmb : UEmb _ 𝕄) (bigSep Finset.univ fun s : Fin 16 => tileOut m d (Fin.cast nCore_zero c) s))
  go q d c i := match q with
    | 0 => (inferInstance : BI.Storable (upEmb : UEmb _ 𝕄) (tileIn m d (Fin.cast nCore_zero c) (Fin.cast nSub_zero i)))
  td q d c i := match q with
    | 0 => (inferInstance : BI.Storable (upEmb : UEmb _ 𝕄) (tileOut m d (Fin.cast nCore_zero c) (Fin.cast nSub_zero i)))

/-! ## A tile's task -/

theorem defs₀_vector (c : Fin τ.nSC) (s : Fin τ.nSub) :
    defs₀ (F := F) (.scVector c s) 0 ()
      = SparseCore.onTile hcore0 hsub0 (fun c s => cc0__features_linear_sc (coordsV c s)
          xcV (Memref.isWhole_whole _) wV (Memref.isWhole_whole _) oV (Memref.isWhole_whole _)
          pV (Memref.isWhole_whole _) iV (Memref.isWhole_whole _) rV (Memref.isWhole_whole _) aV (Memref.isWhole_whole _)
          cc0_scratch4 cc0_scoped0 cc0_scoped1) ⟨⟩ c s := rfl

omit [FloatOps F] in
/-- Waits of a tile's own transfers are among those the call allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hx : ∀ d i, BitVec.toNat (index (xcs m d i)) < 1040000) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts _ _ (xcs m d) (tbl m d) (hx d) O W hO).trans (wp_mono frame _ _ fun _ => obl_post)

omit [FloatOps F] in
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show (bigSep Finset.univ fun s : Fin 16 => tileIn m d (Fin.cast nCore_zero c) s) ⊢ |={Set.univ}=> iprop(
      (bigSep Finset.univ fun i : Fin ((K (F := F)).nSub 0) => tileIn m d (Fin.cast nCore_zero c) (Fin.cast nSub_zero i))
      ∗ ((bigSep Finset.univ fun i : Fin ((K (F := F)).nSub 0) => tileOut m d (Fin.cast nCore_zero c) (Fin.cast nSub_zero i))
          -∗ bigSep Finset.univ fun s : Fin 16 => tileOut m d (Fin.cast nCore_zero c) s))
  rw [bigSep_tiles (F := F) (tileIn m d (Fin.cast nCore_zero c)), bigSep_tiles (F := F) (tileOut m d (Fin.cast nCore_zero c))]
  iintro H; imodintro
  isplitl [H]; · iexact H
  iintro H; iexact H

/-! ## The shares and the parts -/

theorem mem_oSet (L : grid0.Coords) (z : S4096.Idx) : z ∈ oSet L ↔ (z 0).val / 128 = number L := by
  constructor
  · intro h
    obtain ⟨x, -, rfl⟩ := Finset.mem_map.mp h
    have hx : (x 0).val < 128 := (x 0).isLt
    rw [oK_emb]; omega
  · intro h
    refine Finset.mem_map.mpr ⟨(fun | 0 => (⟨(z 0).val % 128, Nat.mod_lt _ (by decide)⟩ : Fin 128) : S128.Idx), Finset.mem_univ _, ?_⟩
    funext a
    obtain rfl := Fin.eq_zero a
    refine Fin.ext ((oK_emb L _).trans ?_)
    show 128 * number L + (z 0).val % 128 = (z 0).val
    omega

omit [FloatOps F] in
/-- Read shares of a whole buffer, over the SparseCores and their tiles. -/
theorem shares {ℓ : Loc nD τ sig} (f : Buf (Elt F) ℓ) :
    (ℓ ↦{fullShare} f : sProp 𝕄) = bigSep Finset.univ fun c : Fin 2 => bigSep Finset.univ fun s : Fin 16 => ℓ ↦{share c s} f :=
  (pointsTo_piecesOf Finset.univ f (by decide) fullShare).trans
    (bigSep_congr fun c _ => pointsTo_piecesOf Finset.univ f (by decide) (pieceOf fullShare 2 (by decide) c))

/-- The result is its tiles' parts. -/
theorem parts (d : Dev nD) (f : Buf (Elt F) (oLoc d)) :
    (oLoc d ↦{fullShare} f : sProp 𝕄)
      = bigSep Finset.univ fun c : Fin 2 => bigSep Finset.univ fun s : Fin 16 => oLoc d ↦[oSet (coordsV c s)]{fullShare} f := by
  rw [← bigSep_univ_prod (fun p : Fin 2 × Fin 16 => (oLoc d ↦[oSet (coordsV p.1 p.2)]{fullShare} f : sProp 𝕄)),
    ← pointsTo_biUnion Finset.univ (ℓ := oLoc d) (fun p : Fin 2 × Fin 16 => oSet (coordsV p.1 p.2))]
  · refine congrArg (fun I => (oLoc d ↦[I]{fullShare} f : sProp 𝕄)) (Finset.ext fun z => ⟨fun _ => ?_, fun _ => Finset.mem_univ _⟩)
    have hz : (z 0).val < 4096 := (z 0).isLt
    refine Finset.mem_biUnion.mpr ⟨(⟨(z 0).val / 128 % 2, by omega⟩, ⟨(z 0).val / 128 / 2, by omega⟩), Finset.mem_univ _, (mem_oSet _ z).mpr ?_⟩
    show _ = 2 * ((z 0).val / 128 / 2) + (z 0).val / 128 % 2
    omega
  · intro p _ q _ hpq
    refine Finset.disjoint_left.mpr fun z hp hq => hpq ?_
    have e : 2 * p.2.val + p.1.val = 2 * q.2.val + q.1.val := ((mem_oSet _ z).mp hp).symm.trans ((mem_oSet _ z).mp hq)
    have hp1 := p.1.isLt
    have hq1 := q.1.isLt
    exact Prod.ext (Fin.ext (by omega)) (Fin.ext (by omega))

/-- What the call takes for its SparseCores, out of the three buffers whole. -/
theorem st_intro (d : Dev nD) (f : Buf (Elt F) (oLoc d)) :
    (iprop((xcLoc d ↦{fullShare} xcs m d) ∗ (wLoc d ↦{fullShare} tbl m d) ∗ oLoc d ↦{fullShare} f) : sProp 𝕄)
      ⊢ bigSep Finset.univ fun c : Fin ((K (F := F)).nCore 0) => (P m).st 0 d c := by
  refine BI.Entails.trans ?_ (Entails.of_eq (bigSep_cores (F := F) fun c => bigSep Finset.univ fun s : Fin 16 => tileIn m d c s).symm)
  rw [shares (xcs m d), shares (tbl m d), parts d f, ← bigSep_sep', ← bigSep_sep']
  refine bigSep_mono fun c _ => ?_
  rw [← bigSep_sep', ← bigSep_sep']
  refine bigSep_mono fun s _ => ?_
  unfold tileIn
  show iprop(_ ∗ _ ∗ _) ⊢ iprop(_ ∗ _ ∗ ∃ f : Buf (Elt F) (oLoc d), oLoc d ↦[oSet (coordsV c s)]{fullShare} f)
  iintro ⟨Hx, Hw, Ho⟩
  isplitl [Hx]; · iexact Hx
  isplitl [Hw]; · iexact Hw
  iexists f; iexact Ho

/-- What the call hands back: the three buffers whole, the result at the sums. -/
theorem dn_elim (d : Dev nD) :
    (bigSep Finset.univ fun c : Fin ((K (F := F)).nCore 0) => (P m).dn 0 d c)
      ⊢ (iprop((xcLoc d ↦{fullShare} xcs m d) ∗ (wLoc d ↦{fullShare} tbl m d) ∗ oLoc d ↦{fullShare} sums (xcs m d) (tbl m d)) : sProp 𝕄) := by
  show (bigSep Finset.univ fun c : Fin ((K (F := F)).nCore 0) => bigSep Finset.univ fun s : Fin 16 => tileOut m d (Fin.cast nCore_zero c) s) ⊢ _
  rw [bigSep_cores (F := F) fun c => bigSep Finset.univ fun s : Fin 16 => tileOut m d c s]
  refine Entails.of_eq (Eq.symm ?_)
  rw [shares (xcs m d), shares (tbl m d), parts d (sums (xcs m d) (tbl m d)), ← bigSep_sep', ← bigSep_sep']
  refine bigSep_congr fun c _ => ?_
  rw [← bigSep_sep', ← bigSep_sep']
  unfold tileOut
  rfl

/-! ## The launch element of the ghost state -/

def u₀ : UU := (initOf (K (F := F)).hsCells (K (F := F)).hsToks, 1)

omit [FloatOps F] in
/-- Nothing, over any set, is nothing. -/
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## The host program on the TensorCore -/

/-- The three buffers of the call. -/
abbrev S3 : Finset (DevRef τ sig) := {Proc.devRef .tc main_v3, Proc.devRef .tc main_v4, Proc.devRef .tc main_v5}
/-- Every buffer of the host program. -/
abbrev SU : Finset (DevRef τ sig) := Pipeline.ucRefs τ sig

theorem mem_SU (b : Ref sig .tc) (h : (Proc.devRef .tc b : DevRef τ sig).isScoped = false) : (Proc.devRef .tc b : DevRef τ sig) ∈ SU :=
  Finset.mem_filter.mpr ⟨StableHlo.devRef_mem_tcRefs b, by rw [h]; decide⟩

theorem S3_sub : S3 ⊆ SU := by
  intro b hb
  simp only [S3, Finset.mem_insert, Finset.mem_singleton] at hb
  rcases hb with rfl | rfl | rfl <;> exact mem_SU _ rfl

omit [FloatOps F] in
theorem held_S3 (d : Dev nD) (W : Valuation τ sig (Elt F)) :
    (held (SparseCore.T d) S3 W : sProp 𝕄)
      = iprop((xcLoc d ↦{fullShare} W (Proc.devRef .tc main_v3)) ∗ (wLoc d ↦{fullShare} W (Proc.devRef .tc main_v4)) ∗ oLoc d ↦{fullShare} W (Proc.devRef .tc main_v5)) := by
  unfold held S3
  rw [SparseCore.bigSep_insert' (by decide), SparseCore.bigSep_insert' (by decide), bigSep_singleton]

/-- The call's buffers out of all. -/
theorem take_S3 (d : Dev nD) :
    (held (SparseCore.T d) SU (V1 m d) : sProp 𝕄)
      ⊢ iprop(((xcLoc d ↦{fullShare} xcs m d) ∗ (wLoc d ↦{fullShare} tbl m d) ∗ oLoc d ↦{fullShare} V1 m d (Proc.devRef .tc main_v5))
          ∗ held (SparseCore.T d) (SU \ S3) (V1 m d)) := by
  rw [StableHlo.held_sub_split (SparseCore.T d) S3_sub, held_S3]
  exact Entails.of_eq rfl

/-- The call's buffers back among all. -/
theorem give_S3 (d : Dev nD) :
    (iprop(((xcLoc d ↦{fullShare} xcs m d) ∗ (wLoc d ↦{fullShare} tbl m d) ∗ oLoc d ↦{fullShare} sums (xcs m d) (tbl m d))
          ∗ held (SparseCore.T d) (SU \ S3) (V1 m d)) : sProp 𝕄)
      ⊢ held (SparseCore.T d) SU (V2 m d) := by
  rw [StableHlo.held_sub_split (SparseCore.T d) S3_sub (V2 m d), held_S3]
  rw [show V2 m d (Proc.devRef .tc main_v3) = xcs m d from Function.update_of_ne (by decide) _ _,
    show V2 m d (Proc.devRef .tc main_v4) = tbl m d from Function.update_of_ne (by decide) _ _,
    show V2 m d (Proc.devRef .tc main_v5) = sums (xcs m d) (tbl m d) from Function.update_self _ _ _,
    StableHlo.held_congr (SparseCore.T d) (S := SU \ S3) (V := V2 m d) (V' := V1 m d) fun b hb =>
      Function.update_of_ne (fun e => (Finset.mem_sdiff.mp hb).2 (by rw [e]; simp [S3])) _ _]

theorem before_sub : ∀ op ∈ opsBefore (F := F), op.bufs ⊆ SU := fun op h =>
  Pipeline.sub_ucRefs op ((List.forall_iff_forall_mem (p := fun op : HloOp τ sig (Elt F) => op.bufs ⊆ StableHlo.tcRefs τ sig)).mp (by simp only [List.Forall, StableHlo.nullary_bufs_sub, StableHlo.unary_bufs_sub, StableHlo.binary_bufs_sub, StableHlo.reshape_bufs_sub, _root_.and_self]) op h)

theorem after_sub : ∀ op ∈ opsAfter (F := F), op.bufs ⊆ SU := fun op h =>
  Pipeline.sub_ucRefs op ((List.forall_iff_forall_mem (p := fun op : HloOp τ sig (Elt F) => op.bufs ⊆ StableHlo.tcRefs τ sig)).mp (by simp only [List.Forall, StableHlo.unary_bufs_sub, StableHlo.binary_bufs_sub, StableHlo.reshape_bufs_sub, _root_.and_self]) op h)

theorem before_fresh : ∀ op ∈ opsBefore (F := F), op.fresh = ∅ :=
  (List.forall_iff_forall_mem (p := fun op : HloOp τ sig (Elt F) => op.fresh = ∅)).mp ⟨rfl, rfl, rfl, rfl, rfl, rfl⟩

theorem after_fresh : ∀ op ∈ opsAfter (F := F), op.fresh = ∅ :=
  (List.forall_iff_forall_mem (p := fun op : HloOp τ sig (Elt F) => op.fresh = ∅)).mp ⟨rfl, rfl, rfl, rfl⟩

/-- What the host program leaves: every buffer at the end contents. -/
abbrev FIN (d : Dev nD) : sProp 𝕄 := held (SparseCore.T d) SU (V3 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) SU (V0 m d) from
    Pipeline.unscopedBufs_held d (V0 m d), main_eq]
  iintro ⟨#Hctx, Hst, ⟨Hb, Hheld, Hts, -⟩, -⟩
  iapply (wp_seq 𝒱 none Set.univ d SU _ opsBefore before_sub before_fresh (V0 m d)) $$ [Hb Hheld]
  · isplitl [Hb]; · iexact Hb
    iexact Hheld
  iintro ⟨Hb, Hheld⟩
  ihave Hheld := (Entails.of_eq (show (held (d.tc : Thread nD τ) SU (after opsBefore (V0 m d)) : sProp 𝕄) = held (SparseCore.T d) SU (V1 m d) from rfl)) $$ Hheld
  ihave H3 := (take_S3 m d) $$ Hheld
  icases H3 with ⟨H3, Hrest⟩
  rw [wp_bind]
  iapply ((K (F := F)).wp_run (D (F := F)) 𝒱 (EH := EH) (P := P m) κ d 0) $$ [Hst H3 Hrest Hb Hts]
  isplitr; · iexact Hctx
  isplitl [Hst]; · iexact Hst
  isplitl [H3]; · iapply (st_intro m d _); iexact H3
  iintro ⟨Hst, Hdn⟩
  ihave H3 := (dn_elim m d) $$ Hdn
  ihave Hheld := (give_S3 m d) $$ [H3 Hrest]
  · isplitl [H3]; · iexact H3
    iexact Hrest
  iapply (wp_seq 𝒱 none Set.univ d SU _ opsAfter after_sub after_fresh (V2 m d)) $$ [Hb Hheld]
  · isplitl [Hb]; · iexact Hb
    iexact Hheld
  iintro ⟨Hb, Hheld⟩
  rw [wp_pure]; imodintro
  isplitl [Hst]; · iexact Hst
  isplitl [Hheld]; · iexact Hheld
  isplitl [Hb] <;> iassumption

/-! ## The program's run -/

/-- Every buffer of the host program at the end contents. -/
def fq (d : Dev nD) (s' : Phys nD τ sig (Elt F)) : Prop := ∀ b ∈ SU, s'.mem.mem (d, b) = V3 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) SU) $$ [HSI H]
  · isplitl [HSI]; · iexact HSI
    iexact H
  ipureintro; exact h

/-- Every buffer of the host program at the end contents, on every device, and every semaphore at zero. -/
def QC : PUnit × MemSt nD τ sig (Elt F) → Prop := fun r => (∀ d : Dev nD, ∀ b ∈ SU, r.2.mem (d, b) = V3 m d b) ∧ r.2.sem = fun _ => 0

theorem run_main [∀ e, Nonempty (Elt F e)] (hx : ∀ d i, BitVec.toNat (index (xcs m d i)) < 1040000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hx)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Run

end
-- ==== Proof.Reference.lean ====
/-
  The reference read at an index: under the stated ranges none of its index checks fails, so that the sum for sample `b` is
  the sum over the fields of the table's entries at `x + 40000 * x_field`, and the bias.
-/
module

public import proofs.«01_k».proof.Proof.Gen.ReferenceIdeal.Run
public import proofs.«01_k».proof.Proof.Gen.Pre_drawn
public import Idealize.ShloMosaic.Lib.StableHlo.Predicate
public import Idealize.ShloMosaic.Lib.ReduceAll
public import Idealize.ShloMosaic.Lib.IdealHost
public import Idealize.ShloMosaic.Lib.WordArith

@[expose] public section

noncomputable section

namespace Cert.Proof

open Idealize.ShloMosaic

/-! ## Index words -/

/-- A small word's sign bit is off. -/
theorem toInt_of_small (v : BitVec 32) (h : v.toNat < 2 ^ 31) : v.toInt = (v.toNat : Int) :=
  BitVec.toInt_eq_toNat_of_lt (by omega)

/-- A small word is not taken for a negative index. -/
theorem wrap_small (v n : BitVec 32) (h : v.toNat < 2 ^ 31) : Scalar.select (IntOp.cmpi .slt v 0#32) n v = v := by
  have e : IntOp.cmpi .slt v 0#32 = 0#1 := by
    have : v.slt 0#32 = false := by
      rw [BitVec.slt_eq_decide, toInt_of_small v h]
      simp
    simp only [IntOp.cmpi, this]
    rfl
  rw [e]
  rfl

/-- A word from 0 to a small bound passes the two comparisons. -/
theorem inside_one (v u : BitVec 32) (hv : v.toNat ≤ u.toNat) (hu : u.toNat < 2 ^ 31) :
    IntOp.andi (IntOp.cmpi .sge v 0#32) (IntOp.cmpi .sle v u) = 1#1 := by
  have e1 : IntOp.cmpi .sge v 0#32 = 1#1 := by
    have : (0#32).sle v = true := by
      rw [BitVec.sle_iff_toInt_le, toInt_of_small v (by omega)]
      simp
    simp only [IntOp.cmpi, this]
    rfl
  have e2 : IntOp.cmpi .sle v u = 1#1 := by
    have : v.sle u = true := by
      rw [BitVec.sle_iff_toInt_le, toInt_of_small v (by omega), toInt_of_small u hu]
      omega
    simp only [IntOp.cmpi, this]
    rfl
  rw [e1, e2]
  rfl

/-- A word that passes the two comparisons lies from 0 to below a small bound. -/
theorem lt_of_inside (v u : BitVec 32) (hu : u.toNat < 2 ^ 31)
    (h : IntOp.andi (IntOp.cmpi .sge v 0#32) (IntOp.cmpi .slt v u) = 1#1) : v.toNat < u.toNat := by
  obtain ⟨h1, h2⟩ := IntOp.andi_eq_one.1 h
  have g1 : (0#32).sle v = true := (WordArith.ofBool_eq_one_iff _).1 h1
  have g2 : v.slt u = true := (WordArith.ofBool_eq_one_iff _).1 h2
  rw [BitVec.sle_iff_toInt_le] at g1
  rw [BitVec.slt_iff_toInt_lt, toInt_of_small u hu] at g2
  have : v.toInt = (v.toNat : Int) ∨ v.toInt = (v.toNat : Int) - 2 ^ 32 := by
    rw [BitVec.toInt_eq_toNat_cond]
    split <;> simp
  have hv := v.isLt
  have : (0#32).toInt = 0 := rfl
  omega

/-! ## The ranges -/

/-- The ranges that the inputs are drawn from: fields below 26, numbers below 40000 within a field, and the offsets at the
    multiples of 40000. -/
structure Drawn (xf x : (⟨2, ![4096, 26]⟩ : Shape).Idx → BitVec 32) (off : (⟨1, ![26]⟩ : Shape).Idx → BitVec 32) : Prop where
  field : ∀ i, (xf i).toNat < 26
  number : ∀ i, (x i).toNat < 40000
  offset : ∀ k : Fin 26, off (Shape.Idx.ofFin k) = BitVec.ofNat 32 k.val * 40000#32

/-- The precondition states the ranges. -/
theorem drawn_of {F : FTy → Type} [FloatOps F] (xf x : (⟨2, ![4096, 26]⟩ : Shape).Idx → BitVec 32)
    (w : (⟨2, ![1040000, 1]⟩ : Shape).Idx → F .f32) (b : (⟨1, ![1]⟩ : Shape).Idx → F .f32)
    (off : (⟨1, ![26]⟩ : Shape).Idx → BitVec 32) (h : Pre_drawn.fn (F := F) xf x w b off = fun _ => 1#1) : Drawn xf x off := by
  have h0 := congrFun h (fun a => a.elim0)
  obtain ⟨h12, h3⟩ := IntOp.andi_eq_one.1 h0
  obtain ⟨h1, h2⟩ := IntOp.andi_eq_one.1 h12
  have : Subsingleton Pre_drawn.S_.Idx := ⟨fun _ _ => funext fun a => a.elim0⟩
  refine ⟨fun i => ?_, fun i => ?_, fun k => ?_⟩
  · exact lt_of_inside (xf i) 26#32 (by decide) (Host.reduce_andi_all _ _ _ _ _ h1 i)
  · exact lt_of_inside (x i) 40000#32 (by decide) (Host.reduce_andi_all _ _ _ _ _ h2 i)
  · have e := Host.reduce_andi_all _ _ _ _ _ h3 (Shape.Idx.ofFin k)
    exact eq_of_beq ((WordArith.ofBool_eq_one_iff _).1 e)

/-- The row of the table for number `v` of field `f`. -/
theorem row_lt {v f : ℕ} (hv : v < 40000) (hf : f < 26) : v + f * 40000 < 1040000 := by omega

/-- The row's word is the row. -/
theorem row_word (v f : BitVec 32) (hv : v.toNat < 40000) (hf : f.toNat < 26) : (v + f * 40000#32).toNat = v.toNat + f.toNat * 40000 := by
  rw [BitVec.toNat_add, BitVec.toNat_mul, show (40000#32).toNat = 40000 from rfl]
  omega

namespace Ref

open Cert.ReferenceIdeal Cert.ReferenceIdeal.Gen

variable {F : FTy → Type} [FloatOps F]

/-! ## The two lookups -/

/-- The places looked up in the offsets. -/
def fields (xf : IVec S4096x26 32) : IVec S106496x1 32 :=
  broadcastInDim S106496x1 ![0] bcast_S106496_S106496x1_0
    (select (cmpi .slt (shapeCast _ xf shapeCasts_S4096x26_S106496) (broadcastInDim S106496 ![] bcast_S_S106496 (constantI S_ 32 0#32)))
      (addi (shapeCast _ xf shapeCasts_S4096x26_S106496) (broadcastInDim S106496 ![] bcast_S_S106496 (constantI S_ 32 26#32)))
      (shapeCast _ xf shapeCasts_S4096x26_S106496))

/-- The offsets looked up. -/
def offsets (xf : IVec S4096x26 32) (off : IVec S26 32) : IVec S106496 32 :=
  select
    (Host.reduce IntOp.andi
      (andi (cmpi .sge (fields xf) (broadcastInDim S106496x1 ![] bcast_S_S106496x1 (constantI S_ 32 0#32)))
        (cmpi .sle (fields xf) (broadcastInDim S106496x1 ![0, 1] bcast_S1x1_S106496x1_0_1 (broadcastInDim S1x1 ![1] bcast_S1_S1x1_1 (constantI S1 32 25#32)))))
      (constantI S_ 1 1#1) reducesTo_S106496x1_S106496_d1 h_S_)
    (Host.gather gather_S26_S106496x1_S106496_n_0_n_n_0_1_1 off (fields xf))
    (broadcastInDim S106496 ![] bcast_S_S106496 (constantI S_ 32 2147483648#32))

/-- The rows of the table to look up. -/
def rows (xf x : IVec S4096x26 32) (off : IVec S26 32) : IVec S4096x26 32 := addi x (shapeCast _ (offsets xf off) shapeCasts_S106496_S4096x26)

/-- The places looked up in the table. -/
def places (r : IVec S4096x26 32) : IVec S4096x26x1 32 :=
  broadcastInDim S4096x26x1 ![0, 1] bcast_S4096x26_S4096x26x1_0_1
    (select (cmpi .slt r (broadcastInDim S4096x26 ![] bcast_S_S4096x26 (constantI S_ 32 0#32)))
      (addi r (broadcastInDim S4096x26 ![] bcast_S_S4096x26 (constantI S_ 32 1040000#32))) r)

/-- The table's entries looked up. -/
def entries (w : FVec F S1040000x1 .f32) (r : IVec S4096x26 32) : FVec F S4096x26x1 .f32 :=
  select
    (broadcastInDim S4096x26x1 ![0, 1] bcast_S4096x26_S4096x26x1_0_1
      (Host.reduce IntOp.andi
        (andi (cmpi .sge (places r) (broadcastInDim S4096x26x1 ![] bcast_S_S4096x26x1 (constantI S_ 32 0#32)))
          (cmpi .sle (places r) (broadcastInDim S4096x26x1 ![0, 1, 2] bcast_S1x1x1_S4096x26x1_0_1_2 (broadcastInDim S1x1x1 ![2] bcast_S1_S1x1x1_2 (constantI S1 32 1039999#32)))))
        (constantI S_ 1 1#1) reducesTo_S4096x26x1_S4096x26_d2 h_S_))
    (Host.gather gather_S1040000x1_S4096x26x1_S4096x26x1_2_0_n_n_0_2_11 w (places r))
    (broadcastInDim S4096x26x1 ![] bcast_S_S4096x26x1 (constant S_ .f32 0x7FC00000#32))

/-- The sum of the entries looked up, and the bias. -/
def result (xf x : IVec S4096x26 32) (w : FVec F S1040000x1 .f32) (b : FVec F S1 .f32) (off : IVec S26 32) : FVec F S4096x1 .f32 :=
  addf (Host.reduceAdd (entries w (rows xf x off)) (constant S_ .f32 0x00000000#32) reducesTo_S4096x26x1_S4096x1_d1 h_S_)
    (broadcastInDim S4096x1 ![0, 1] bcast_S1x1_S4096x1_0_1 (broadcastInDim S1x1 ![1] bcast_S1_S1x1_1 b))

theorem res_eq (m : (ℓ : Loc nD τ sig) → Buf (Elt F) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_out0 Value.res_main_v8
  rfl

/-- The place in the two-dimensional array of the flat place `i`. -/
abbrev unflat (i : S106496.Idx) : S4096x26.Idx := Shape.reshapeEquiv shapeCasts_S4096x26_S106496 i

theorem fields_apply (xf : IVec S4096x26 32) (hf : ∀ i, (xf i).toNat < 26) (j : S106496x1.Idx) :
    fields xf j = xf (unflat (Shape.Idx.ofFin (j 0))) := by
  have e : fields xf j = Scalar.select (IntOp.cmpi .slt (xf (unflat (Shape.Idx.ofFin (j 0)))) 0#32)
      (IntOp.addi (xf (unflat (Shape.Idx.ofFin (j 0)))) 26#32) (xf (unflat (Shape.Idx.ofFin (j 0)))) := by
    have hi : (fun a : Fin 1 => if h1 : S106496.size a = 1 then (⟨0, by omega⟩ : Fin (S106496.size a)) else ⟨(j ((![0] : Fin 1 → Fin 2) a)).val, by
        obtain rfl : a = 0 := Subsingleton.elim _ _
        exact (j 0).isLt⟩) = (Shape.Idx.ofFin (j 0) : S106496.Idx) := by
      funext a
      obtain rfl : a = 0 := Subsingleton.elim _ _
      rfl
    rw [← hi]
    rfl
  rw [e]
  exact wrap_small _ _ (by have := hf (unflat (Shape.Idx.ofFin (j 0))); omega)

theorem offsets_apply (xf : IVec S4096x26 32) (off : IVec S26 32) (hf : ∀ i, (xf i).toNat < 26)
    (ho : ∀ k : Fin 26, off (Shape.Idx.ofFin k) = BitVec.ofNat 32 k.val * 40000#32) (i : S106496.Idx) :
    offsets xf off i = xf (unflat i) * 40000#32 := by
  have hok : Host.reduce IntOp.andi
      (andi (cmpi .sge (fields xf) (broadcastInDim S106496x1 ![] bcast_S_S106496x1 (constantI S_ 32 0#32)))
        (cmpi .sle (fields xf) (broadcastInDim S106496x1 ![0, 1] bcast_S1x1_S106496x1_0_1 (broadcastInDim S1x1 ![1] bcast_S1_S1x1_1 (constantI S1 32 25#32)))))
      (constantI S_ 1 1#1) reducesTo_S106496x1_S106496_d1 h_S_ i = 1#1 :=
    Host.reduce_andi_one _ _ _ _ _ rfl fun j => inside_one (fields xf j) 25#32 (by
      show _ ≤ 25
      rw [fields_apply xf hf]
      have := hf (unflat (Shape.Idx.ofFin (j 0)))
      omega) (by decide)
  obtain ⟨p, rfl⟩ : ∃ p : Fin 106496, i = Shape.Idx.ofFin p := ⟨i 0, funext fun a => by obtain rfl : a = 0 := Subsingleton.elim _ _; rfl⟩
  have hv := hf (unflat (Shape.Idx.ofFin p))
  unfold offsets
  rw [show ∀ (a : IVec S106496 1) (b c : IVec S106496 32) (z : S106496.Idx), select a b c z = Scalar.select (a z) (b z) (c z) from fun _ _ _ _ => rfl, hok]
  show Host.gather gather_S26_S106496x1_S106496_n_0_n_n_0_1_1 off (fields xf) (Shape.Idx.ofFin p) = _
  rw [StableHlo.Predicate.gather_take gather_S26_S106496x1_S106496_n_0_n_n_0_1_1 rfl rfl rfl rfl off (fields xf) p (by decide), ho]
  refine congrArg (· * 40000#32) ?_
  apply BitVec.eq_of_toNat_eq
  show BitVec.toNat (BitVec.ofNat 32 (min (BitVec.toInt (fields xf (StableHlo.Predicate.ixP p))).toNat 25)) = _
  have e : fields xf (StableHlo.Predicate.ixP p) = xf (unflat (Shape.Idx.ofFin p)) := fields_apply xf hf _
  rw [e, toInt_of_small _ (by omega), BitVec.toNat_ofNat]
  omega

theorem rows_apply {xf x : IVec S4096x26 32} {off : IVec S26 32} (h : Drawn xf x off) (i : S4096x26.Idx) :
    (rows xf x off i).toNat = (x i).toNat + (xf i).toNat * 40000 := by
  have e : rows xf x off i = x i + xf i * 40000#32 := by
    show x i + offsets xf off (Shape.reshapeEquiv shapeCasts_S106496_S4096x26 i) = _
    rw [offsets_apply xf off h.field h.offset, unflat, Shape.reshapeEquiv_reshapeEquiv, Shape.reshapeEquiv_self]
  rw [e]
  exact row_word _ _ (h.number i) (h.field i)

/-- The place in the two-dimensional array that a place in the array of columns stands over. -/
abbrev front (j : S4096x26x1.Idx) : S4096x26.Idx := fun | 0 => (j 0 : Fin 4096) | 1 => (j 1 : Fin 26)

theorem places_apply (r : IVec S4096x26 32) (hr : ∀ i, (r i).toNat < 1040000) (j : S4096x26x1.Idx) : places r j = r (front j) := by
  have e : places r j = Scalar.select (IntOp.cmpi .slt (r (front j)) 0#32) (IntOp.addi (r (front j)) 1040000#32) (r (front j)) := by
    have hi : (fun a : Fin 2 => if h1 : S4096x26.size a = 1 then (⟨0, by omega⟩ : Fin (S4096x26.size a)) else ⟨(j ((![0, 1] : Fin 2 → Fin 3) a)).val, by
        match a with
        | 0 => exact (j 0).isLt
        | 1 => exact (j 1).isLt⟩) = front j := by
      funext a
      match a with
      | 0 => rfl
      | 1 => rfl
    rw [← hi]
    rfl
  rw [e]
  exact wrap_small _ _ (by have := hr (front j); omega)

/-- The row `n` of the table. -/
def row (n : ℕ) : S1040000x1.Idx := fun | 0 => (⟨n % 1040000, Nat.mod_lt _ (by decide)⟩ : Fin 1040000) | 1 => (0 : Fin 1)

/-- The second lookup, at an index. -/
theorem gather_apply {α : Type} (w : S1040000x1.Idx → α) (p : IVec S4096x26x1 32) (j : S4096x26x1.Idx) (n : ℕ) (hn : n < 1040000)
    (hp : (p j).toNat = n) : Host.gather gather_S1040000x1_S4096x26x1_S4096x26x1_2_0_n_n_0_2_11 w p j = w (row n) := by
  unfold Host.gather
  congr 1
  funext a
  match a with
  | 1 => exact Subsingleton.elim (α := Fin 1) _ _
  | 0 =>
    refine Fin.ext ?_
    show GatherDims.start _ j p 0 + GatherDims.batchCoord _ j 0 + GatherDims.offCoord _ j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1040000x1_S4096x26x1_S4096x26x1_2_0_n_n_0_2_11.startIndexMap from List.mem_singleton.mpr rfl)]
    have hs : GatherDims.siIdx gather_S1040000x1_S4096x26x1_S4096x26x1_2_0_n_n_0_2_11 j ⟨List.idxOf (0 : Fin 2) [0], by decide⟩ = j := by
      funext b
      match b with
      | 0 => rfl
      | 1 => rfl
      | 2 => exact Subsingleton.elim (α := Fin 1) _ _
    show min (p (GatherDims.siIdx gather_S1040000x1_S4096x26x1_S4096x26x1_2_0_n_n_0_2_11 j ⟨List.idxOf (0 : Fin 2) [0], by decide⟩)).toInt.toNat 1039999 = n % 1040000
    rw [hs, toInt_of_small _ (by omega), hp, Nat.mod_eq_of_lt hn]
    omega

/-- An array of ones, spread over the columns, is one everywhere. -/
theorem broadcast_one (p : IVec S4096x26 1) (h : ∀ i, p i = 1#1) (j : S4096x26x1.Idx) :
    broadcastInDim S4096x26x1 ![0, 1] bcast_S4096x26_S4096x26x1_0_1 p j = 1#1 := h _

theorem entries_apply (w : FVec F S1040000x1 .f32) (r : IVec S4096x26 32) (hr : ∀ i, (r i).toNat < 1040000) (j : S4096x26x1.Idx) :
    entries w r j = w (row (r (front j)).toNat) := by
  have hok : ∀ i, Host.reduce IntOp.andi
      (andi (cmpi .sge (places r) (broadcastInDim S4096x26x1 ![] bcast_S_S4096x26x1 (constantI S_ 32 0#32)))
        (cmpi .sle (places r) (broadcastInDim S4096x26x1 ![0, 1, 2] bcast_S1x1x1_S4096x26x1_0_1_2 (broadcastInDim S1x1x1 ![2] bcast_S1_S1x1x1_2 (constantI S1 32 1039999#32)))))
      (constantI S_ 1 1#1) reducesTo_S4096x26x1_S4096x26_d2 h_S_ i = 1#1 := fun i =>
    Host.reduce_andi_one _ _ _ _ _ rfl fun j => inside_one (places r j) 1039999#32 (by
      show _ ≤ 1039999
      rw [places_apply r hr]
      have := hr (front j)
      omega) (by decide)
  unfold entries
  rw [show ∀ (a : IVec S4096x26x1 1) (b c : FVec F S4096x26x1 .f32) (z : S4096x26x1.Idx), select a b c z = Scalar.select (a z) (b z) (c z) from fun _ _ _ _ => rfl,
    broadcast_one _ hok]
  show Host.gather gather_S1040000x1_S4096x26x1_S4096x26x1_2_0_n_n_0_2_11 w (places r) j = _
  exact gather_apply w _ j _ (hr _) (by rw [places_apply r hr])

/-- The place of sample `b`, field `k`. -/
abbrev at2 (b : Fin 4096) (k : Fin 26) : S4096x26.Idx := fun | 0 => b | 1 => k

/-- The bias. -/
abbrev only : S1.Idx := fun | 0 => (0 : Fin 1)

/-- The bias, spread over the samples. -/
theorem bias_apply {α : Type} (b : S1.Idx → α) (j : S4096x1.Idx) :
    broadcastInDim S4096x1 ![0, 1] bcast_S1x1_S4096x1_0_1 (broadcastInDim S1x1 ![1] bcast_S1_S1x1_1 b) j = b only := by
  refine congrArg b (funext fun a => ?_)
  match a with
  | 0 => rfl

/-- What both programs compute: for a sample, the sum over the fields of the table's entries, and the bias. -/
def total (xf x : IVec S4096x26 32) (w : FVec Ideal S1040000x1 .f32) (b : FVec Ideal S1 .f32) : FVec Ideal S4096x1 .f32 := fun j =>
  ((∑ k : Fin 26, (w (row ((x (at2 (j 0) k)).toNat + (xf (at2 (j 0) k)).toNat * 40000)) : EReal)) + (b only : EReal) : EReal)

theorem result_eq {xf x : IVec S4096x26 32} {off : IVec S26 32} (h : Drawn xf x off) (w : FVec Ideal S1040000x1 .f32) (b : FVec Ideal S1 .f32) :
    result xf x w b off = total xf x w b := by
  have hr : ∀ i, (rows xf x off i).toNat < 1040000 := fun i => by rw [rows_apply h]; exact row_lt (h.number i) (h.field i)
  have hl : S4096x26x1.Reduces [1] S4096x1 := by decide
  funext j
  have hterm : ∀ k : Fin 26, entries w (rows xf x off) (hl.lift j k) = w (row ((x (at2 (j 0) k)).toNat + (xf (at2 (j 0) k)).toNat * 40000)) := fun k => by
    have hk : front (hl.lift j k) = at2 (j 0) k := by
      funext a
      match a with
      | 0 => rfl
      | 1 => rfl
    rw [entries_apply _ _ hr, rows_apply h, hk]
  have hz : (constant (F := Ideal) S_ .f32 0x00000000#32) (Shape.Idx.first h_S_) = (0 : EReal) := Ideal.ofBits_zero_f32
  have hs : Host.reduceAdd (entries w (rows xf x off)) (constant (F := Ideal) S_ .f32 0x00000000#32) reducesTo_S4096x26x1_S4096x1_d1 h_S_ j
      = (∑ k : Fin 26, (w (row ((x (at2 (j 0) k)).toNat + (xf (at2 (j 0) k)).toNat * 40000)) : EReal) : EReal) := by
    rw [ValueIdx.hostReduceAdd_apply, Ideal.hostReduceAdd_single reducesTo_S4096x26x1_S4096x1_d1 hl, hz, zero_add]
    exact Finset.sum_congr rfl fun k _ => hterm k
  exact congrArg₂ (fun y z : EReal => y + z) hs (bias_apply b j)

end Ref

end Cert.Proof

end
-- ==== Proof.Value.lean ====
/-
  What the program leaves, read off its run: the arguments as they were, and the result for every sample as the sum over the
  fields of the table's entries at `x + 40000 * x_field`, and the bias.
-/
module

public import proofs.«01_k».proof.Proof.Launch
public import proofs.«01_k».proof.Proof.Reference

@[expose] public section

noncomputable section

namespace Cert.Proof.Run

open Cert.KernelIdeal Cert.KernelIdeal.Gen

open Idealize.ShloMosaic
open Idealize.ShloMosaic.StableHlo (after)
open Idealize.SL.Sem

variable {F : FTy → Type} [FloatOps F] (m : (ℓ : Loc nD τ sig) → Buf (Elt F) ℓ) (d : Dev nD)

/-- The index of a packed word is the row of the table. -/
theorem index_packed (v f : BitVec 32) (hv : v.toNat < 40000) (hf : f.toNat < 26) :
    (index (v * 32#32 + f)).toNat = v.toNat + f.toNat * 40000 := by
  have e : (v * 32#32 + f).toNat = v.toNat * 32 + f.toNat := by
    rw [BitVec.toNat_add, BitVec.toNat_mul, show (32#32).toNat = 32 from rfl]
    omega
  have e1 : (v * 32#32 + f) >>> 5#32 = v := BitVec.eq_of_toNat_eq (by
    rw [BitVec.ushiftRight_eq', BitVec.toNat_ushiftRight, show (5#32).toNat = 5 from rfl, e, Nat.shiftRight_eq_div_pow]
    omega)
  have e2 : (v * 32#32 + f) &&& 31#32 = f := BitVec.eq_of_toNat_eq (by
    rw [BitVec.toNat_and, show (31#32).toNat = 2 ^ 5 - 1 from rfl, e, Nat.and_two_pow_sub_one_eq_mod]
    omega)
  unfold index
  rw [e1, e2]
  exact row_word v f hv hf

/-! ## The buffers before and after the call -/

/-- The fields, as the program is handed them. -/
abbrev xf₀ : IVec S4096x26 32 := m ((d.tc : Thread nD τ).loc main_arg0)
/-- The numbers within the fields. -/
abbrev x₀ : IVec S4096x26 32 := m ((d.tc : Thread nD τ).loc main_arg1)
/-- The table. -/
abbrev w₀ : FVec F S1040000x1 .f32 := m ((d.tc : Thread nD τ).loc main_arg2)
/-- The bias. -/
abbrev b₀ : FVec F S1 .f32 := m ((d.tc : Thread nD τ).loc main_arg3)
/-- The offsets, which the program does not read. -/
abbrev off₀ : IVec S26 32 := m ((d.tc : Thread nD τ).loc main_arg4)

/-- The place in the two-dimensional arrays of the flat place `i`. -/
abbrev unflat (i : S106496.Idx) : S4096x26.Idx := Shape.reshapeEquiv shapeCasts_S4096x26_S106496 i

/-- The packed word at a flat place. -/
theorem xcs_apply (i : S106496.Idx) : xcs m d i = x₀ m d (unflat i) * 32#32 + xf₀ m d (unflat i) := by
  have e : xcs m d = shapeCast S106496 (addi (muli (x₀ m d) (broadcastInDim S4096x26 ![] bcast_S_S4096x26 (constantI S_ 32 32#32))) (xf₀ m d))
      shapeCasts_S4096x26_S106496 := by
    unfold xcs V1 opsBefore
    after_results
    rfl
  rw [e]
  rfl

/-- The entry `n` of the table. -/
theorem tbl_apply (n : ℕ) : tbl m d (entry n) = w₀ m d (Ref.row n) := by
  have e : tbl m d = transpose S1x1040000 [1, 0] (w₀ m d) transposes_S1040000x1_S1x1040000_1_0 := by
    unfold tbl V1 opsBefore
    after_results
  rw [e]
  refine congrArg (w₀ m d) ?_
  funext a
  match a with
  | 0 => rfl
  | 1 => rfl

/-- The result is the sums as a column, and the bias. -/
theorem out_eq : V3 m d (Proc.devRef .tc main_v9)
    = (addf (shapeCast S4096x1 (sums (xcs m d) (tbl m d)) shapeCasts_S4096_S4096x1)
        (broadcastInDim S4096x1 ![0, 1] bcast_S1x1_S4096x1_0_1 (broadcastInDim S1x1 ![1] bcast_S1_S1x1_1 (b₀ m d))) : FVec F S4096x1 .f32) := by
  have h5 : V2 m d (Proc.devRef .tc main_v5) = sums (xcs m d) (tbl m d) := Function.update_self _ _ _
  have h3 : V2 m d (Proc.devRef .tc main_arg3) = b₀ m d := by
    unfold V2
    rw [Function.update_of_ne (by decide)]
    unfold V1 opsBefore
    after_results
  rw [← h5, ← h3]
  unfold V3 opsAfter
  after_results
  rfl

/-- The program leaves its arguments. -/
theorem arg_eq : V3 m d (Proc.devRef .tc main_arg0) = m ((d.tc : Thread nD τ).loc main_arg0)
    ∧ V3 m d (Proc.devRef .tc main_arg1) = m ((d.tc : Thread nD τ).loc main_arg1)
    ∧ V3 m d (Proc.devRef .tc main_arg2) = m ((d.tc : Thread nD τ).loc main_arg2)
    ∧ V3 m d (Proc.devRef .tc main_arg3) = m ((d.tc : Thread nD τ).loc main_arg3)
    ∧ V3 m d (Proc.devRef .tc main_arg4) = m ((d.tc : Thread nD τ).loc main_arg4) := by
  have key : ∀ r : Ref sig .tc, r ∉ [main_c, main_v0, main_v1, main_v2, main_v3, main_v4] → r ∉ [main_v6, main_v7, main_v8, main_v9] →
      (Proc.devRef .tc r : DevRef τ sig) ≠ Proc.devRef .tc main_v5 → V3 m d (Proc.devRef .tc r) = m ((d.tc : Thread nD τ).loc r) := fun r h1 h2 h3 =>
    (StableHlo.after_of_writes_sub opsAfter (V2 m d) (by simp [opsAfter]) h2).trans
      ((Function.update_of_ne h3 _ _).trans (StableHlo.after_of_writes_sub opsBefore (V0 m d) (by simp [opsBefore]) h1))
  exact ⟨key _ (by decide) (by decide) (by decide), key _ (by decide) (by decide) (by decide), key _ (by decide) (by decide) (by decide),
    key _ (by decide) (by decide) (by decide), key _ (by decide) (by decide) (by decide)⟩

/-! ## The ranges -/

/-- Every packed word's index lies in the table. -/
theorem index_lt (h : Drawn (xf₀ m d) (x₀ m d) (off₀ m d)) (i : S106496.Idx) : BitVec.toNat (index (xcs m d i)) < 1040000 := by
  rw [xcs_apply, index_packed _ _ (h.number _) (h.field _)]
  exact row_lt (h.number _) (h.field _)

/-- The flat place of sample `b`, field `k`. -/
theorem unflat_packed (b : Fin 4096) (k : Fin 26) : unflat (packed (26 * b.val + k.val)) = Ref.at2 b k :=
  Shape.reshapeEquiv_eq_of_rowMajor _ (by
    rw [Shape.rowMajor_val_two, Shape.rowMajor_val_one]
    show b.val * 26 + k.val = (26 * b.val + k.val) % 106496
    have := b.isLt
    have := k.isLt
    omega)

/-- Over the extended reals, the terms added from the first to the last are the sum of the terms. -/
theorem upto_eq_sum (e : ℕ → Ideal .f32) : ∀ n, upto e n = ((∑ k ∈ Finset.range (n + 1), (e k : EReal)) : EReal)
  | 0 => by rw [Finset.sum_range_one]; rfl
  | n + 1 => by rw [Finset.sum_range_succ, ← upto_eq_sum e n]; rfl

/-- Over the extended reals, a sample's sum is the sum over its fields. -/
theorem sums_apply (xc : IVec S106496 32) (w : FVec Ideal S1x1040000 .f32) (z : S4096.Idx) :
    sums xc w z = ((∑ k : Fin 26, (w (entry (BitVec.toNat (index (xc (packed (26 * (z 0).val + k.val)))))) : EReal)) : EReal) :=
  (upto_eq_sum (fun n => w (entry (BitVec.toNat (index (xc (packed (26 * (z 0).val + n))))))) 25).trans
    (Finset.sum_range (fun n => (w (entry (BitVec.toNat (index (xc (packed (26 * (z 0).val + n)))))) : EReal)))

end Cert.Proof.Run

namespace Cert.Proof.Run

open Cert.KernelIdeal Cert.KernelIdeal.Gen
open Idealize.ShloMosaic

variable (m : (ℓ : Loc nD τ sig) → Buf (Elt Ideal) ℓ) (d : Dev nD)

/-- The sample a place of the result belongs to. -/
abbrev sample (j : S4096x1.Idx) : S4096.Idx := fun | 0 => j 0

/-- The column's place `j` is the flat place of its sample. -/
theorem column (j : S4096x1.Idx) : Shape.reshapeEquiv shapeCasts_S4096_S4096x1 j = sample j :=
  Shape.reshapeEquiv_eq_of_rowMajor _ (by
    rw [Shape.rowMajor_val_two, Shape.rowMajor_val_one]
    show (j 0).val = (j 0).val * 1 + (j 1).val
    have : (j 1).val < 1 := (j 1).isLt
    omega)

/-- The program's last operations, of any packed words and any table that read as `x`, `xf` and `w` do. -/
theorem column_sums {xf x : IVec S4096x26 32} {off : IVec S26 32} (h : Drawn xf x off) (w : FVec Ideal S1040000x1 .f32) (b : FVec Ideal S1 .f32)
    (xc : IVec S106496 32) (t : FVec Ideal S1x1040000 .f32) (hxc : ∀ i, xc i = x (unflat i) * 32#32 + xf (unflat i)) (ht : ∀ n, t (entry n) = w (Ref.row n)) :
    addf (shapeCast S4096x1 (sums xc t) shapeCasts_S4096_S4096x1)
        (broadcastInDim S4096x1 ![0, 1] bcast_S1x1_S4096x1_0_1 (broadcastInDim S1x1 ![1] bcast_S1_S1x1_1 b)) = Ref.total xf x w b := by
  funext j
  have hterm : ∀ k : Fin 26, t (entry (BitVec.toNat (index (xc (packed (26 * (j 0).val + k.val))))))
      = w (Ref.row ((x (Ref.at2 (j 0) k)).toNat + (xf (Ref.at2 (j 0) k)).toNat * 40000)) := fun k => by
    rw [ht, hxc, unflat_packed (j 0) k, index_packed _ _ (h.number _) (h.field _)]
  exact congrArg₂ (fun y z : EReal => y + z)
    ((congrArg (sums xc t) (column j)).trans ((sums_apply xc t (sample j)).trans (Finset.sum_congr rfl fun k _ => hterm k))) (Ref.bias_apply b j)

/-- The program computes the reference's total. -/
theorem out_total (h : Drawn (xf₀ m d) (x₀ m d) (off₀ m d)) :
    V3 m d (Proc.devRef .tc main_v9) = Ref.total (xf₀ m d) (x₀ m d) (w₀ m d) (b₀ m d) :=
  (out_eq m d).trans (column_sums h (w₀ m d) (b₀ m d) (xcs m d) (tbl m d) (xcs_apply m d) (tbl_apply m d))

end Cert.Proof.Run

end
-- ==== Proof.lean ====
/-
  The certificate's claim, from the runs of the kernel and of the reference and the equality of their results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_drawn
public import proofs.«01_k».proof.Proof.Value
public import Idealize.ShloMosaic.Lib.Quiescent

@[expose] public section

noncomputable section

namespace Cert.Proof

open Idealize.ShloMosaic Idealize.SL.Sem
open Cert.Proof.Run (QC run_main arg_eq index_lt mem_SU out_total)

/-! ## The kernel -/

section Kernel

open Cert.KernelIdeal

variable {F : FTy → Type} [FloatOps F]

/-- What the precondition says of a memory: on every device the arrays are in their ranges. -/
abbrev InRange (m : (ℓ : Loc nD τ sig) → Buf (Elt F) ℓ) : Prop :=
  ∀ c : Dev nD, Drawn (Run.xf₀ m c) (Run.x₀ m c) (Run.off₀ m c)

/-- The memory holds the arguments `m` holds. -/
abbrev Kept (m : (ℓ : Loc nD τ sig) → Buf (Elt F) ℓ) (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

theorem kept (m : (ℓ : Loc nD τ sig) → Buf (Elt F) ℓ) (r : PUnit × MemSt nD τ sig (Elt F)) (hr : QC m r) (c : Dev nD) : Kept m r c := by
  obtain ⟨e0, e1, e2, e3, e4⟩ := arg_eq m c
  exact ⟨(hr.1 c _ (mem_SU _ rfl)).trans e0, (hr.1 c _ (mem_SU _ rfl)).trans e1, (hr.1 c _ (mem_SU _ rfl)).trans e2,
    (hr.1 c _ (mem_SU _ rfl)).trans e3, (hr.1 c _ (mem_SU _ rfl)).trans e4⟩

/-- From arrays in range the kernel runs, over any float values. -/
theorem run_in [∀ e, Nonempty (Elt F e)] (m : (ℓ : Loc nD τ sig) → Buf (Elt F) ℓ) (ρ : Dev nD → PrngReg) (h : InRange m) :
    θ_run (defs (F := F)) (threads (F := F)) ⟨m, fun _ => 0, ρ⟩ (QC m) :=
  run_main m ρ fun d i => index_lt m d (h d) i

end Kernel

theorem frame_ki : Cert.quiescent_KernelIdeal (hKernelIdeal := Cert.KernelIdeal.Gen.facts) (hPre_drawn := Cert.Pre_drawn.Gen.facts) := fun m ρ hp =>
  (θ_run Cert.KernelIdeal.defs _ _).mono (fun r hr => ⟨kept m r hr, hr.2⟩)
    (run_in (F := Ideal) m ρ fun c => drawn_of _ _ _ _ _ (hp c))

theorem frame_kernel : Cert.quiescent_Kernel (hKernel := Cert.Kernel.Gen.facts) (hPre_drawn := Cert.Pre_drawn.Gen.facts) := fun m ρ hp =>
  (θ_run Cert.KernelIdeal.defs _ _).mono (fun r hr => ⟨kept m r hr, hr.2⟩)
    (run_in (F := Bits) m ρ fun c => drawn_of _ _ _ _ _ (hp c))

/-! ## The reference -/

theorem frame_ri : Cert.quiescent_ReferenceIdeal (hReferenceIdeal := Cert.ReferenceIdeal.Gen.facts) := fun m ρ _ =>
  (θ_run Cert.ReferenceIdeal.defs _ _).mono (fun r hr => ⟨fun c => (hr c).2, sem_eq_zero_of_no_sems rfl r.2⟩)
    (Cert.ReferenceIdeal.Value.run m ρ)

/-! ## The results -/

theorem algebraic : Cert.algebraic_KernelIdeal_ReferenceIdeal (hKernelIdeal := Cert.KernelIdeal.Gen.facts)
    (hReferenceIdeal := Cert.ReferenceIdeal.Gen.facts) (hPre_drawn := Cert.Pre_drawn.Gen.facts) := fun m ρ m' ρ' hp hargs => by
  have hd : InRange m := fun c => drawn_of _ _ _ _ _ (hp c)
  refine ⟨fun c => Ref.total (Run.xf₀ m c) (Run.x₀ m c) (Run.w₀ m c) (Run.b₀ m c), ?_, ?_⟩
  · exact (θ_run Cert.KernelIdeal.defs _ _).mono
      (fun r hr c => ⟨(hr.1 c _ (mem_SU _ rfl)).trans (out_total m c (hd c)), kept m r hr c⟩) (run_in m ρ hd)
  · refine (θ_run Cert.ReferenceIdeal.defs _ _).mono (fun r hr c => ⟨(hr c).1.trans ((Ref.res_eq m' c).trans ?_), (hr c).2⟩)
      (Cert.ReferenceIdeal.Value.run m' ρ')
    obtain ⟨e0, e1, e2, e3, e4⟩ := hargs c
    rw [e0, e1, e2, e3, e4]
    exact Ref.result_eq (hd c) _ _

theorem claim : Cert.Claim :=
  ⟨Cert.Kernel.Gen.facts, Cert.KernelIdeal.Gen.facts, Cert.ReferenceIdeal.Gen.facts, Cert.Pre_drawn.Gen.facts,
    frame_kernel, frame_ki, frame_ri, fun m ρ _ => frame_ri m ρ trivial, trivial, algebraic⟩

end Cert.Proof

end
